-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S4x1024x256 : Shape := ⟨3, ![4, 1024, 256]⟩
abbrev S4x1024x1024 : Shape := ⟨3, ![4, 1024, 1024]⟩
abbrev S256x256 : Shape := ⟨2, ![256, 256]⟩
abbrev S512x1 : Shape := ⟨2, ![512, 1]⟩
abbrev S256x1 : Shape := ⟨2, ![256, 1]⟩
abbrev S4x1024x1 : Shape := ⟨3, ![4, 1024, 1]⟩
abbrev S4x1x1024 : Shape := ⟨3, ![4, 1, 1024]⟩
abbrev S_ : Shape := ⟨0, ![]⟩
abbrev S4x1024 : Shape := ⟨2, ![4, 1024]⟩
abbrev S4x1024x32 : Shape := ⟨3, ![4, 1024, 32]⟩

class Facts : Prop where
  slices_S512x1_S256x1_0_0 : S512x1.Slices ![0, 0] S256x1
  slices_S512x1_S256x1_256_0 : S512x1.Slices ![256, 0] S256x1
  transposes_S4x1024x1_S4x1x1024_0_2_1 : S4x1024x1.Transposes [0, 2, 1] S4x1x1024
  bcast_S4x1024x1_S4x1024x1024_0_1_2 : S4x1024x1.BroadcastsInDim S4x1024x1024 (![0, 1, 2] : Fin 3 → Fin S4x1024x1024.rank)
  bcast_S4x1x1024_S4x1024x1024_0_1_2 : S4x1x1024.BroadcastsInDim S4x1024x1024 (![0, 1, 2] : Fin 3 → Fin S4x1024x1024.rank)
  bcast_S_S4x1024x1024 : S_.BroadcastsInDim S4x1024x1024 (![] : Fin 0 → Fin S4x1024x1024.rank)
  reducesTo_S4x1024x1024_S4x1024_d2 : S4x1024x1024.ReducesTo [2] S4x1024
  h_S_ : 0 < S_.numel
  bcast_S_S4x1024 : S_.BroadcastsInDim S4x1024 (![] : Fin 0 → Fin S4x1024.rank)
  bcast_S4x1024_S4x1024x1_0_1 : S4x1024.BroadcastsInDim S4x1024x1 (![0, 1] : Fin 2 → Fin S4x1024x1.rank)
  sliceFits_S4x1024x1024_S4x1024x32 : S4x1024x1024.Slices (fun _ => 0) S4x1024x32
  slices_S4x1024x32_S4x1024x1_0_0_31 : S4x1024x32.Slices ![0, 0, 31] S4x1024x1
  shapeCasts_S4x1024x1_S4x1024 : S4x1024x1.ShapeCasts S4x1024
  bcast_S_S4x1024x1 : S_.BroadcastsInDim S4x1024x1 (![] : Fin 0 → Fin S4x1024x1.rank)
  dot_S4x1024x256_S256x256_S4x1024x256_2_0_01_1_n_n_wf : DotDims.WF S4x1024x256 S256x256 S4x1024x256 [2] [0] [0, 1] [1] [] []
  dot_S4x1024x256_S256x1_S4x1024x1_2_0_01_1_n_n_wf : DotDims.WF S4x1024x256 S256x1 S4x1024x1 [2] [0] [0, 1] [1] [] []

variable [Facts]

def dot_S4x1024x256_S256x256_S4x1024x256_2_0_01_1_n_n : DotDims S4x1024x256 S256x256 S4x1024x256 where
  lhsContracting := [2]
  rhsContracting := [0]
  lhsNonContracting := [0, 1]
  rhsNonContracting := [1]
  lhsBatch := []
  rhsBatch := []
  wf := dot_S4x1024x256_S256x256_S4x1024x256_2_0_01_1_n_n_wf
def dot_S4x1024x256_S256x1_S4x1024x1_2_0_01_1_n_n : DotDims S4x1024x256 S256x1 S4x1024x1 where
  lhsContracting := [2]
  rhsContracting := [0]
  lhsNonContracting := [0, 1]
  rhsNonContracting := [1]
  lhsBatch := []
  rhsBatch := []
  wf := dot_S4x1024x256_S256x1_S4x1024x1_2_0_01_1_n_n_wf
def fn_where {F : FTy → Type} [FloatOps F] (arg0 : IVec S4x1024x1024 1) (arg1 : FVec F S4x1024x1024 .f32) (arg2 : FVec F S4x1024x1024 .f32) : FVec F S4x1024x1024 .f32 :=
  let v0 : FVec F S4x1024x1024 .f32 := select arg0 arg1 arg2
  v0

def fn_leaky_relu {F : FTy → Type} [FloatOps F] (arg0 : FVec F S4x1024x1024 .f32) (arg1 : FVec F S_ .f32) : FVec F S4x1024x1024 .f32 :=
  let cst : FVec F S_ .f32 := constant S_ .f32 0x00000000#32
  let v0 : FVec F S4x1024x1024 .f32 := broadcastInDim S4x1024x1024 ![] bcast_S_S4x1024x1024 cst
  let v1 : IVec S4x1024x1024 1 := cmpf .oge arg0 v0
  let v2 : FVec F S_ .f32 := id arg1
  let v3 : FVec F S4x1024x1024 .f32 := broadcastInDim S4x1024x1024 ![] bcast_S_S4x1024x1024 v2
  let v4 : FVec F S4x1024x1024 .f32 := mulf v3 arg0
  let v5 : FVec F S4x1024x1024 .f32 := fn_where (F := F) v1 arg0 v4
  v5

def fn_part2 {F : FTy → Type} [FloatOps F] (main_v26 : FVec F S4x1024x1024 .f32) (main_v29 : FVec F S4x1024x1 .f32) (main_v33 : FVec F S4x1024x1 .f32) (main_v35 : IVec S4x1024x1 1) : IVec S4x1024x1024 1 :=
  let main_v36 : FVec F S4x1024x1024 .f32 := broadcastInDim S4x1024x1024 ![0, 1, 2] bcast_S4x1024x1_S4x1024x1024_0_1_2 main_v29
  let main_v37 : IVec S4x1024x1024 1 := cmpf .oge main_v26 main_v36
  let main_v38 : FVec F S4x1024x1024 .f32 := broadcastInDim S4x1024x1024 ![0, 1, 2] bcast_S4x1024x1_S4x1024x1024_0_1_2 main_v33
  let main_v39 : FVec F S4x1024x1024 .f32 := addf main_v26 main_v38
  let main_v40 : FVec F S4x1024x1024 .f32 := broadcastInDim S4x1024x1024 ![0, 1, 2] bcast_S4x1024x1_S4x1024x1024_0_1_2 main_v29
  let main_v41 : IVec S4x1024x1024 1 := cmpf .ole main_v39 main_v40
  let main_v42 : IVec S4x1024x1024 1 := ori main_v37 main_v41
  let main_v43 : IVec S4x1024x1024 1 := broadcastInDim S4x1024x1024 ![0, 1, 2] bcast_S4x1024x1_S4x1024x1024_0_1_2 main_v35
  let main_v44 : IVec S4x1024x1024 1 := andi main_v43 main_v42
  main_v44

def fn_part1 {F : FTy → Type} [FloatOps F] (main_v15 : FVec F S4x1024x1024 .f32) (main_v16 : FVec F S4x1024 .f32) (main_v17 : FVec F S4x1024 .f32) : IVec S4x1024x1024 1 :=
  let main_v18 : FVec F S4x1024 .f32 := maximumf main_v17 main_v16
  let main_v19 : FVec F S4x1024x1 .f32 := broadcastInDim S4x1024x1 ![0, 1] bcast_S4x1024_S4x1024x1_0_1 main_v18
  let main_v20 : FVec F S4x1024x1024 .f32 := broadcastInDim S4x1024x1024 ![0, 1, 2] bcast_S4x1024x1_S4x1024x1024_0_1_2 main_v19
  let main_v21 : FVec F S4x1024x1024 .f32 := subf main_v15 main_v20
  let main_v22 : FVec F S4x1024x1024 .f32 := Host.exp main_v21
  let main_cst_4 : FVec F S_ .f32 := constant S_ .f32 0x00000000#32
  let main_v23 : FVec F S4x1024 .f32 := (fun x v => Host.reduceAdd x v reducesTo_S4x1024x1024_S4x1024_d2 h_S_) main_v22 main_cst_4
  let main_v24 : FVec F S4x1024x1 .f32 := broadcastInDim S4x1024x1 ![0, 1] bcast_S4x1024_S4x1024x1_0_1 main_v23
  let main_v25 : FVec F S4x1024x1024 .f32 := broadcastInDim S4x1024x1024 ![0, 1, 2] bcast_S4x1024x1_S4x1024x1024_0_1_2 main_v24
  let main_v26 : FVec F S4x1024x1024 .f32 := Host.divf main_v22 main_v25
  let main_values : FVec F S4x1024x32 .f32 := (fun x => (Host.topK S4x1024x32 2 (FloatOps.cmpfTotal .gt) x sliceFits_S4x1024x1024_S4x1024x32).1) main_v26
  let main_indices : IVec S4x1024x32 32 := (fun x => (Host.topK S4x1024x32 2 (FloatOps.cmpfTotal .gt) x sliceFits_S4x1024x1024_S4x1024x32).2) main_v26
  let main_v27 : FVec F S4x1024x1 .f32 := (extractStridedSlice S4x1024x1 ![0, 0, 31] · slices_S4x1024x32_S4x1024x1_0_0_31) main_values
  let main_v28 : FVec F S4x1024 .f32 := shapeCast S4x1024 main_v27 shapeCasts_S4x1024x1_S4x1024
  let main_v29 : FVec F S4x1024x1 .f32 := broadcastInDim S4x1024x1 ![0, 1] bcast_S4x1024_S4x1024x1_0_1 main_v28
  let main_cst_5 : FVec F S_ .f32 := constant S_ .f32 0x00800000#32
  let main_v30 : FVec F S4x1024x1 .f32 := broadcastInDim S4x1024x1 ![] bcast_S_S4x1024x1 main_cst_5
  let main_v31 : FVec F S4x1024x1 .f32 := maximumf main_v29 main_v30
  let main_cst_6 : FVec F S_ .f32 := constant S_ .f32 0x34000000#32
  let main_v32 : FVec F S4x1024x1 .f32 := broadcastInDim S4x1024x1 ![] bcast_S_S4x1024x1 main_cst_6
  let main_v33 : FVec F S4x1024x1 .f32 := mulf main_v31 main_v32
  let main_cst_7 : FVec F S_ .f32 := constant S_ .f32 0x00000000#32
  let main_v34 : FVec F S4x1024x1 .f32 := broadcastInDim S4x1024x1 ![] bcast_S_S4x1024x1 main_cst_7
  let main_v35 : IVec S4x1024x1 1 := cmpf .oge main_v29 main_v34
  fn_part2 (F := F) main_v26 main_v29 main_v33 main_v35

def fn {F : FTy → Type} [FloatOps F] (main_arg0 : FVec F S4x1024x256 .f32) (main_arg1 : IVec S4x1024x1024 32) (main_arg2 : FVec F S256x256 .f32) (main_arg3 : FVec F S512x1 .f32) : IVec S4x1024x1024 1 :=
  let main_v0 : FVec F S4x1024x256 .f32 := (fun l r => Host.dotGeneral dot_S4x1024x256_S256x256_S4x1024x256_2_0_01_1_n_n none l r) main_arg0 main_arg2
  let main_v1 : FVec F S256x1 .f32 := (extractStridedSlice S256x1 ![0, 0] · slices_S512x1_S256x1_0_0) main_arg3
  let main_v2 : FVec F S4x1024x1 .f32 := (fun l r => Host.dotGeneral dot_S4x1024x256_S256x1_S4x1024x1_2_0_01_1_n_n none l r) main_v0 main_v1
  let main_v3 : FVec F S256x1 .f32 := (extractStridedSlice S256x1 ![256, 0] · slices_S512x1_S256x1_256_0) main_arg3
  let main_v4 : FVec F S4x1024x1 .f32 := (fun l r => Host.dotGeneral dot_S4x1024x256_S256x1_S4x1024x1_2_0_01_1_n_n none l r) main_v0 main_v3
  let main_v5 : FVec F S4x1x1024 .f32 := (transpose S4x1x1024 [0, 2, 1] · transposes_S4x1024x1_S4x1x1024_0_2_1) main_v4
  let main_v6 : FVec F S4x1024x1024 .f32 := broadcastInDim S4x1024x1024 ![0, 1, 2] bcast_S4x1024x1_S4x1024x1024_0_1_2 main_v2
  let main_v7 : FVec F S4x1024x1024 .f32 := broadcastInDim S4x1024x1024 ![0, 1, 2] bcast_S4x1x1024_S4x1024x1024_0_1_2 main_v5
  let main_v8 : FVec F S4x1024x1024 .f32 := addf main_v6 main_v7
  let main_cst : FVec F S_ .f32 := constant S_ .f32 0x3E4CCCCD#32
  let main_v9 : FVec F S4x1024x1024 .f32 := fn_leaky_relu (F := F) main_v8 main_cst
  let main_cst_0 : FVec F S_ .f32 := constant S_ .f32 0x3F800000#32
  let main_v10 : FVec F S4x1024x1024 .f32 := broadcastInDim S4x1024x1024 ![] bcast_S_S4x1024x1024 main_cst_0
  let main_cst_1 : FVec F S_ .f32 := constant S_ .f32 0xD9FFCB9E#32
  let main_v11 : FVec F S4x1024x1024 .f32 := broadcastInDim S4x1024x1024 ![] bcast_S_S4x1024x1024 main_cst_1
  let main_v12 : FVec F S4x1024x1024 .f32 := mulf main_v11 main_v10
  let main_c : IVec S_ 32 := constantI S_ 32 0#32
  let main_v13 : IVec S4x1024x1024 32 := broadcastInDim S4x1024x1024 ![] bcast_S_S4x1024x1024 main_c
  let main_v14 : IVec S4x1024x1024 1 := cmpi .sgt main_arg1 main_v13
  let main_v15 : FVec F S4x1024x1024 .f32 := fn_where (F := F) main_v14 main_v9 main_v12
  let main_cst_2 : FVec F S_ .f32 := constant S_ .f32 0xFF800000#32
  let main_v16 : FVec F S4x1024 .f32 := (fun x v => Host.reduce FloatOps.maximumf x v reducesTo_S4x1024x1024_S4x1024_d2 h_S_) main_v15 main_cst_2
  let main_cst_3 : FVec F S_ .f32 := constant S_ .f32 0xFF800000#32
  let main_v17 : FVec F S4x1024 .f32 := broadcastInDim S4x1024 ![] bcast_S_S4x1024 main_cst_3
  fn_part1 (F := F) main_v15 main_v16 main_v17
-- ==== Kernel.lean ====
abbrev S4x1024x256 : Shape := ⟨3, ![4, 1024, 256]⟩
abbrev S4x1024x1024 : Shape := ⟨3, ![4, 1024, 1024]⟩
abbrev S256x256 : Shape := ⟨2, ![256, 256]⟩
abbrev S512x1 : Shape := ⟨2, ![512, 1]⟩
abbrev S1x1024x256 : Shape := ⟨3, ![1, 1024, 256]⟩
abbrev S1024x256 : Shape := ⟨2, ![1024, 256]⟩
abbrev S1x512 : Shape := ⟨2, ![1, 512]⟩
abbrev S1x1024x512 : Shape := ⟨3, ![1, 1024, 512]⟩
abbrev S1x512x256 : Shape := ⟨3, ![1, 512, 256]⟩
abbrev S1024x512 : Shape := ⟨2, ![1024, 512]⟩
abbrev S1x256 : Shape := ⟨2, ![1, 256]⟩
abbrev S512x256 : Shape := ⟨2, ![512, 256]⟩
abbrev S1x1024 : Shape := ⟨2, ![1, 1024]⟩
abbrev S1024x1 : Shape := ⟨2, ![1024, 1]⟩
abbrev S512 : Shape := ⟨1, ![512]⟩

abbrev nBuf : Space → Nat
  | .hbm => 8
  | .vmem => 13
  | .smem => 0
  | _ => 0

abbrev bufTy : (tb : Table) → Fin (tcTables nBuf tb) → BufTy
  | .hbm, ⟨0, _⟩ => ⟨S4x1024x256, .f32⟩
  | .hbm, ⟨1, _⟩ => ⟨S4x1024x1024, .i32⟩
  | .hbm, ⟨2, _⟩ => ⟨S256x256, .f32⟩
  | .hbm, ⟨3, _⟩ => ⟨S512x1, .f32⟩
  | .hbm, ⟨4, _⟩ => ⟨S4x1024x256, .f32⟩
  | .hbm, ⟨5, _⟩ => ⟨S1x512, .f32⟩
  | .hbm, ⟨6, _⟩ => ⟨S4x1024x1024, .i32⟩
  | .hbm, ⟨7, _⟩ => ⟨S4x1024x256, .f32⟩
  | .local _ .vmem, ⟨0, _⟩ => ⟨S1x1024x256, .f32⟩
  | .local _ .vmem, ⟨1, _⟩ => ⟨S1x1024x256, .f32⟩
  | .local _ .vmem, ⟨2, _⟩ => ⟨S256x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x512, .i32⟩
  | .local _ .vmem, ⟨8, _⟩ => ⟨S1x1024x512, .i32⟩
  | .local _ .vmem, ⟨9, _⟩ => ⟨S1x512, .f32⟩
  | .local _ .vmem, ⟨10, _⟩ => ⟨S1x512x256, .f32⟩
  | .local _ .vmem, ⟨11, _⟩ => ⟨S1x512x256, .f32⟩
  | .local _ .vmem, ⟨12, _⟩ => ⟨S1024x512, .f32⟩
  | _, _ => ⟨S4x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 2], ![false, false]⟩

def k1_off1 (i : grid1.Coords) : Fin 3 → Nat :=
  let c0_8 : Index := 0#32
  let arg1 : BitVec 32 := BitVec.ofNat 32 (i 1).val
  let c512_i32 : BitVec 32 := 512#32
  let v8 : BitVec 32 := Scalar.muli arg1 c512_i32
  let v9 : Index := Scalar.indexCast v8
  let c0_9 : Index := 0#32
  ![0, v9.toNat, 0]
@[reducible] def k1_t1_loop : Scf.Loop 32 :=
  let c0_i32_18 : BitVec 32 := 0#32
  let c30_i32 : BitVec 32 := 30#32
  let v40 : BitVec 32 := Scalar.addi c0_i32_18 c30_i32
  let c1_i32 : BitVec 32 := 1#32
  ⟨c0_i32_18, v40, c1_i32⟩
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024x512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ReferenceIdeal.lean ====
abbrev S4x1024x256 : Shape := ⟨3, ![4, 1024, 256]⟩
abbrev S4x1024x1024 : Shape := ⟨3, ![4, 1024, 1024]⟩
abbrev S256x256 : Shape := ⟨2, ![256, 256]⟩
abbrev S512x1 : Shape := ⟨2, ![512, 1]⟩
abbrev S256x1 : Shape := ⟨2, ![256, 1]⟩
abbrev S4x1024x1 : Shape := ⟨3, ![4, 1024, 1]⟩
abbrev S4x1x1024 : Shape := ⟨3, ![4, 1, 1024]⟩
abbrev S_ : Shape := ⟨0, ![]⟩
abbrev S4x1024 : Shape := ⟨2, ![4, 1024]⟩
abbrev S4x1024x32 : Shape := ⟨3, ![4, 1024, 32]⟩

abbrev nBuf : Space → Nat
  | .hbm => 70
  | .vmem => 0
  | .smem => 0
  | _ => 0

abbrev bufTy : (tb : Table) → Fin (tcTables nBuf tb) → BufTy
  | .hbm, ⟨0, _⟩ => ⟨S4x1024x256, .f32⟩
  | .hbm, ⟨1, _⟩ => ⟨S4x1024x1024, .i32⟩
  | .hbm, ⟨2, _⟩ => ⟨S256x256, .f32⟩
  | .hbm, ⟨3, _⟩ => ⟨S512x1, .f32⟩
  | .hbm, ⟨4, _⟩ => ⟨S4x1024x256, .f32⟩
  | .hbm, ⟨5, _⟩ => ⟨S256x1, .f32⟩
  | .hbm, ⟨6, _⟩ => ⟨S256x1, .f32⟩
  | .hbm, ⟨7, _⟩ => ⟨S4x1024x1, .f32⟩
  | .hbm, ⟨8, _⟩ => ⟨S4x1024x1, .f32⟩
  | .hbm, ⟨9, _⟩ => ⟨S4x1x1024, .f32⟩
  | .hbm, ⟨10, _⟩ => ⟨S4x1024x1024, .f32⟩
  | .hbm, ⟨11, _⟩ => ⟨S4x1024x1024, .f32⟩
  | .hbm, ⟨12, _⟩ => ⟨S4x1024x1024, .f32⟩
  | .hbm, ⟨13, _⟩ => ⟨S_, .f32⟩
  | .hbm, ⟨14, _⟩ => ⟨S_, .f32⟩
  | .hbm, ⟨15, _⟩ => ⟨S4x1024x1024, .f32⟩
  | .hbm, ⟨16, _⟩ => ⟨S4x1024x1024, .i1⟩
  | .hbm, ⟨17, _⟩ => ⟨S_, .f32⟩
  | .hbm, ⟨18, _⟩ => ⟨S4x1024x1024, .f32⟩
  | .hbm, ⟨19, _⟩ => ⟨S4x1024x1024, .f32⟩
  | .hbm, ⟨20, _⟩ => ⟨S4x1024x1024, .f32⟩
  | .hbm, ⟨21, _⟩ => ⟨S_, .f32⟩
  | .hbm, ⟨22, _⟩ => ⟨S4x1024x1024, .f32⟩
  | .hbm, ⟨23, _⟩ => ⟨S_, .f32⟩
  | .hbm, ⟨24, _⟩ => ⟨S4x1024x1024, .f32⟩
  | .hbm, ⟨25, _⟩ => ⟨S4x1024x1024, .f32⟩
  | .hbm, ⟨26, _⟩ => ⟨S_, .i32⟩
  | .hbm, ⟨27, _⟩ => ⟨S4x1024x1024, .i32⟩
  | .hbm, ⟨28, _⟩ => ⟨S4x1024x1024, .i1⟩
  | .hbm, ⟨29, _⟩ => ⟨S4x1024x1024, .f32⟩
  | .hbm, ⟨30, _⟩ => ⟨S_, .f32⟩
  | .hbm, ⟨31, _⟩ => ⟨S4x1024, .f32⟩
  | .hbm, ⟨32, _⟩ => ⟨S_, .f32⟩
  | .hbm, ⟨33, _⟩ => ⟨S4x1024, .f32⟩
  | .hbm, ⟨34, _⟩ => ⟨S4x1024, .f32⟩
  | .hbm, ⟨35, _⟩ => ⟨S4x1024x1, .f32⟩
  | .hbm, ⟨36, _⟩ => ⟨S4x1024x1024, .f32⟩
  | .hbm, ⟨37, _⟩ => ⟨S4x1024x1024, .f32⟩
  | .hbm, ⟨38, _⟩ => ⟨S4x1024x1024, .f32⟩
  | .hbm, ⟨39, _⟩ => ⟨S_, .f32⟩
  | .hbm, ⟨40, _⟩ => ⟨S4x1024, .f32⟩
  | .hbm, ⟨41, _⟩ => ⟨S4x1024x1, .f32⟩
  | .hbm, ⟨42, _⟩ => ⟨S4x1024x1024, .f32⟩
  | .hbm, ⟨43, _⟩ => ⟨S4x1024x1024, .f32⟩
  | .hbm, ⟨44, _⟩ => ⟨S4x1024x32, .f32⟩
  | .hbm, ⟨45, _⟩ => ⟨S4x1024x32, .i32⟩
  | .hbm, ⟨46, _⟩ => ⟨S4x1024x1, .f32⟩
  | .hbm, ⟨47, _⟩ => ⟨S4x1024, .f32⟩
  | .hbm, ⟨48, _⟩ => ⟨S4x1024x1, .f32⟩
  | .hbm, ⟨49, _⟩ => ⟨S4x1024x1024, .f32⟩
  | .hbm, ⟨50, _⟩ => ⟨S4x1024x1024, .i1⟩
  | .hbm, ⟨51, _⟩ => ⟨S_, .f32⟩
  | .hbm, ⟨52, _⟩ => ⟨S4x1024x1024, .f32⟩
  | .hbm, ⟨53, _⟩ => ⟨S4x1024x1024, .f32⟩
  | .hbm, ⟨54, _⟩ => ⟨S4x1024x256, .f32⟩
  | .hbm, ⟨55, _⟩ => ⟨S_, .f32⟩
  | .hbm, ⟨56, _⟩ => ⟨S4x1024x256, .f32⟩
  | .hbm, ⟨57, _⟩ => ⟨S4x1024x256, .i1⟩
  | .hbm, ⟨58, _⟩ => ⟨S_, .f32⟩
  | .hbm, ⟨59, _⟩ => ⟨S4x1024x256, .f32⟩
  | .hbm, ⟨60, _⟩ => ⟨S4x1024x256, .i1⟩
  | .hbm, ⟨61, _⟩ => ⟨S_, .f32⟩
  | .hbm, ⟨62, _⟩ => ⟨S_, .f32⟩
  | .hbm, ⟨63, _⟩ => ⟨S4x1024x256, .f32⟩
  | .hbm, ⟨64, _⟩ => ⟨S4x1024x256, .f32⟩
  | .hbm, ⟨65, _⟩ => ⟨S4x1024x256, .f32⟩
  | .hbm, ⟨66, _⟩ => ⟨S_, .f32⟩
  | .hbm, ⟨67, _⟩ => ⟨S4x1024x256, .f32⟩
  | .hbm, ⟨68, _⟩ => ⟨S4x1024x256, .f32⟩
  | .hbm, ⟨69, _⟩ => ⟨S4x1024x256, .f32⟩
  | _, _ => ⟨S4x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_values : Ref sig .tc := ⟨.hbm, 44, rfl⟩
abbrev main_indices : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call3_cst : Ref sig .tc := ⟨.hbm, 55, rfl⟩
abbrev main_call3_v0 : Ref sig .tc := ⟨.hbm, 56, rfl⟩
abbrev main_call3_v1 : Ref sig .tc := ⟨.hbm, 57, rfl⟩
abbrev main_call3_cst_0 : Ref sig .tc := ⟨.hbm, 58, rfl⟩
abbrev main_call3_v2 : Ref sig .tc := ⟨.hbm, 59, rfl⟩
abbrev main_call3_v3 : Ref sig .tc := ⟨.hbm, 60, rfl⟩
abbrev main_call3_cst_1 : Ref sig .tc := ⟨.hbm, 61, rfl⟩
abbrev main_call3_call0_v0 : Ref sig .tc := ⟨.hbm, 62, rfl⟩
abbrev main_call3_call0_v1 : Ref sig .tc := ⟨.hbm, 63, rfl⟩
abbrev main_call3_v4 : Ref sig .tc := ⟨.hbm, 64, rfl⟩
abbrev main_call3_v5 : Ref sig .tc := ⟨.hbm, 65, rfl⟩
abbrev main_call3_cst_2 : Ref sig .tc := ⟨.hbm, 66, rfl⟩
abbrev main_call3_v6 : Ref sig .tc := ⟨.hbm, 67, rfl⟩
abbrev main_call3_v7 : Ref sig .tc := ⟨.hbm, 68, rfl⟩
abbrev main_v35 : Ref sig .tc := ⟨.hbm, 69, rfl⟩

abbrev nD : Nat := 1
abbrev τ : Topo := Topo.v7x

variable {F : FTy → Type} [FloatOps F]
-- ==== Proof.Result.lean ====
/-
  The kernel's whole run, read at its result array: every execution from any memory ends with the result array at what
  the second launch's blocks write into it, and with the arguments as they were. The launch is set up as in the frame.
-/
module

public import proofs.«01_k».proof.Proof.Gen.KernelIdeal.Frame

@[expose] public section

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found through plain definitions in a metavariable's type
set_option backward.isDefEq.respectTransparency.types false in
/-- The run: the result array at the second launch's write-backs, the four arguments unchanged. -/
theorem run : θ_run defs (onTc (τ := τ) (main (F := F))) ⟨m, fun _ => 0, ρ⟩ (fun r => (∀ c : Dev nD,
      r.2.mem ((c.tc : Thread nD τ).loc main_v3) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => fun c =>
      ⟨(h c _ (mem_uc main_v3 (by decide))).trans (W3_arr m ρ c 3),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.Result
-- ==== Proof.Block.lean ====
/-
  What the second launch computes at one grid point: the attention weights of 512 rows (stored transposed, one column
  per row), the thirty halvings of the threshold search over them, and the thresholded product with the features.
-/
module

public import proofs.«01_k».proof.Proof.Gen.KernelIdeal.Frame
public import Idealize.ShloMosaic.Lib.Pipeline.Value

@[expose] public section

set_option maxRecDepth 16384

noncomputable section

namespace Cert.KernelIdeal.Result

open Cert.KernelIdeal Cert.KernelIdeal.Gen
open Idealize.ShloMosaic Idealize.ShloMosaic.TcCoe Idealize.ShloMosaic.Tactic

variable {F : FTy → Type} [FloatOps F]

theorem origin2 : (![0, 0] : Fin 2 → Nat) = fun _ => 0 := funext fun a => by fin_cases a <;> rfl
theorem origin3 : (![0, 0, 0] : Fin 3 → Nat) = fun _ => 0 := funext fun a => by fin_cases a <;> rfl

/-- The attention weights of the point's rows, of the features `x0`, the adjacency `x1` and the score vector `x2`. -/
def weights (i : grid1.Coords) (x0 : Vec F S1x1024x256 .f32) (x1 : Vec F S1x1024x512 .i32) (x2 : Vec F S1x512 .f32) :
    FVec F S1024x512 .f32 :=
  k1_pay10 x0 x1
    (View.ld x2 (Rect.unit (s := S1x512) ![0, 0] S1x256.size inb_S1x512_S1x256_0_0))
    (View.ld x2 (Rect.unit (s := S1x512) ![0, 256] S1x256.size inb_S1x512_S1x256_0_256))
    (View.ld x0 (Rect.unit (s := S1x1024x256) (k1_off1 i) S1x512x256.size (k1_off1_inb i)))

/-- The search's interval after `k` halvings, one per column. -/
def search (x : FVec F S1024x512 .f32) : ℕ → IVec S1x512 32 × IVec S1x512 32
  | 0 => (k1_pay2, k1_pay3)
  | k + 1 => (k1_pay6 (search x k).1 (search x k).2 x, k1_pay7 (search x k).1 (search x k).2 x)

/-- The block the point leaves. -/
def block (i : grid1.Coords) (x0 : Vec F S1x1024x256 .f32) (x1 : Vec F S1x1024x512 .i32) (x2 : Vec F S1x512 .f32) :
    Vec F S1x512x256 .f32 :=
  k1_pay8 (k1_pay9 x0) (search (weights i x0 x1 x2) 30).1 (weights i x0 x1 x2)

variable (c : Dev nD) (i : grid1.Coords) (arg2 : Memref sig .tc .vmem S1x1024x256 .f32) (harg2 : arg2.IsWhole)
  (arg3 : Memref sig .tc .vmem S1x1024x512 .i32) (harg3 : arg3.IsWhole) (arg4 : Memref sig .tc .vmem S1x512 .f32)
  (harg4 : arg4.IsWhole) (arg5 : Memref sig .tc .vmem S1x512x256 .f32) (harg5 : arg5.IsWhole)
  (arg6 : Memref sig .tc .vmem S1024x512 .f32) (harg6 : arg6.IsWhole)

theorem trips_eq : k1_t1_loop.trips = 30 := by decide

/-- One trip of the loop is one halving of every column's interval. -/
theorem trip_eq (X : BufTy.Contents (Elt F) arg6.view.ty) (k : Fin k1_t1_loop.trips) (acc : IVec S1x512 32 × IVec S1x512 32) :
    tripR_k1_t1 (F := F) Variants.none c none i arg2 harg2 arg3 harg3 arg4 harg4 arg5 harg5 arg6 harg6 X k acc
      = (k1_pay6 acc.1 acc.2 (View.readAt (Elt F) arg6.view (Rect.unit ![0, 0] ![1024, 512] inb_S1024x512_S1024x512_0_0).toLoadRect X),
        k1_pay7 acc.1 acc.2 (View.readAt (Elt F) arg6.view (Rect.unit ![0, 0] ![1024, 512] inb_S1024x512_S1024x512_0_0).toLoadRect X)) := by
  unfold tripR_k1_t1 trip_k1_t1
  rfl

/-- So the loop's carried value before trip `k` is the interval after `k` halvings. -/
theorem state_eq (X : BufTy.Contents (Elt F) arg6.view.ty) (x : FVec F S1024x512 .f32)
    (hX : View.readAt (Elt F) arg6.view (Rect.unit ![0, 0] ![1024, 512] inb_S1024x512_S1024x512_0_0).toLoadRect X = x) :
    ∀ k ≤ 30, st_k1_t1 (F := F) Variants.none c none i arg2 harg2 arg3 harg3 arg4 harg4 arg5 harg5 arg6 harg6 X
      (k1_pay2, k1_pay3) k = search x k := by
  intro k
  induction k with
  | zero => intro _; rfl
  | succ k ih =>
    intro hk
    have h := st_k1_t1_succ (F := F) Variants.none c none i arg2 harg2 arg3 harg3 arg4 harg4 arg5 harg5 arg6 harg6 X
      (k1_pay2, k1_pay3) ⟨k, by rw [trips_eq]; omega⟩
    dsimp only at h
    rw [h, ih (by omega), trip_eq, hX]
    rfl

/-- THE BLOCK: what the body leaves in the output's buffer. -/
theorem out_eq (x0 : Vec F S1x1024x256 .f32) (x1 : Vec F S1x1024x512 .i32) (x2 : Vec F S1x512 .f32) :
    out1_A_3 c i arg2 harg2 arg3 harg3 arg4 harg4 arg5 harg5 arg6 harg6 x0 x1 x2 = block i x0 x1 x2 := by
  unfold out1_A_3
  rw [View.read_writes_eq_canon _ _ _ (cover1_A_3 c i arg2 harg2 arg3 harg3 arg4 harg4 arg5 harg5 arg6 harg6 x0 x1 x2)]
  unfold kernelRun1_A
  dsimp only
  sl_unfold_words
  rw [View.canon_unit_zero origin3]
  have hw : View.readCov (Val := Elt F) arg6.view [⟨Rect.unit ![0, 0] ![1024, 512] inb_S1024x512_S1024x512_0_0, weights i x0 x1 x2⟩]
      (Rect.unit ![0, 0] ![1024, 512] inb_S1024x512_S1024x512_0_0).toLoadRect = weights i x0 x1 x2 :=
    View.readCov_unit_zero (S := S1024x512) _ origin2 _ _
  have hp : k1_pay1 (weights i x0 x1 x2) = weights i x0 x1 x2 := shapeCast_self _ _
  simp only [View.readAt_eq_ld, harg2.read_unread, harg3.read_unread, harg4.read_unread,
    View.ld_unit_zero (S := S1x1024x256) origin3, View.ld_unit_zero (S := S1x1024x512) origin3]
  unfold block
  have e : k1_pay1 (k1_pay10 x0 x1
      (View.ld x2 (Rect.unit (s := S1x512) ![0, 0] S1x256.size inb_S1x512_S1x256_0_0))
      (View.ld x2 (Rect.unit (s := S1x512) ![0, 256] S1x256.size inb_S1x512_S1x256_0_256))
      (View.ld x0 (Rect.unit (s := S1x1024x256) (k1_off1 i) S1x512x256.size (k1_off1_inb i)))) = weights i x0 x1 x2 := hp
  refine congrArg₂ (k1_pay8 (k1_pay9 x0)) ?_ ?_
  · refine (congrArg Prod.fst (?_ : _ = st_k1_t1 (F := F) Variants.none c none i arg2 harg2 arg3 harg3 arg4 harg4 arg5 harg5 arg6 harg6
      (arg6.view.writes (Elt F) arg6.view.junk [⟨Rect.unit ![0, 0] ![1024, 512] inb_S1024x512_S1024x512_0_0, weights i x0 x1 x2⟩])
      (k1_pay2, k1_pay3) 30)).trans (congrArg Prod.fst (state_eq c i arg2 harg2 arg3 harg3 arg4 harg4 arg5 harg5 arg6 harg6 _ _ hw 30 le_rfl))
    exact congrArg (fun w => st_k1_t1 (F := F) Variants.none c none i arg2 harg2 arg3 harg3 arg4 harg4 arg5 harg5 arg6 harg6
      (arg6.view.writes (Elt F) arg6.view.junk [⟨Rect.unit ![0, 0] ![1024, 512] inb_S1024x512_S1024x512_0_0, w⟩])
      (k1_pay2, k1_pay3) 30) e
  · exact (congrArg (fun w => View.readCov (Val := Elt F) arg6.view [⟨Rect.unit ![0, 0] ![1024, 512] inb_S1024x512_S1024x512_0_0, w⟩]
      (Rect.unit ![0, 0] ![1024, 512] inb_S1024x512_S1024x512_0_0).toLoadRect) e).trans hw

end Cert.KernelIdeal.Result
-- ==== Proof.Softmax.lean ====
/-
  The row softmax over the extended reals, and the range of its weights. The weights of a row are
  `exp (z j − max z)` divided by their sum; a weight never exceeds one, whatever the scores are.
-/
module

public import Idealize.ShloMosaic.PureOps.Ideal

@[expose] public section

noncomputable section

namespace Cert.Attention

open Idealize.ShloMosaic

variable {n : ℕ}

/-- The greatest score of a row, starting from minus infinity. -/
def top (z : Fin n → EReal) : EReal := Finset.univ.fold max (Ideal.ofBits .f32 4286578688#32) z

/-- The exponential of a score, measured from the greatest one. -/
def mass (z : Fin n → EReal) (j : Fin n) : EReal := Ideal.exp (z j - top z)

/-- The attention weight of column `j`. -/
def weight (z : Fin n → EReal) (j : Fin n) : EReal := Ideal.div (mass z j) (∑ k, mass z k)

theorem le_top (z : Fin n → EReal) (j : Fin n) : z j ≤ top z :=
  (Finset.le_fold_max _).mpr (.inr ⟨j, Finset.mem_univ j, le_rfl⟩)

theorem gap_nonpos {a b : EReal} (h : a ≤ b) : a - b ≤ 0 := by
  induction a with
  | bot => simp
  | top => rw [top_le_iff.mp h]; simp
  | coe r =>
    induction b with
    | bot => simp at h
    | top => simp
    | coe s =>
      rw [← EReal.coe_sub]
      exact_mod_cast sub_nonpos.mpr (EReal.coe_le_coe_iff.mp h)

/-- The exponential of something nonpositive is a real in `[0, 1]`. -/
theorem exp_range {y : EReal} (h : y ≤ 0) : ∃ r : ℝ, 0 ≤ r ∧ r ≤ 1 ∧ Ideal.exp y = (r : EReal) := by
  induction y with
  | bot => exact ⟨0, le_rfl, zero_le_one, by simp⟩
  | top => simp at h
  | coe r =>
    exact ⟨Real.exp r, (Real.exp_pos r).le, Real.exp_le_one_iff.mpr (by exact_mod_cast h), Ideal.exp_coe r⟩

theorem mass_range (z : Fin n → EReal) (j : Fin n) :
    ∃ r : ℝ, 0 ≤ r ∧ r ≤ 1 ∧ mass z j = (r : EReal) :=
  exp_range (gap_nonpos (le_top z j))

theorem coe_sum {ι : Type} (s : Finset ι) (f : ι → ℝ) : ((∑ k ∈ s, f k : ℝ) : EReal) = ∑ k ∈ s, (f k : EReal) := by
  classical
  induction s using Finset.induction_on with
  | empty => simp
  | insert a t ha ih => rw [Finset.sum_insert ha, Finset.sum_insert ha, EReal.coe_add, ih]

/-- A weight is a real in `[0, 1]`, or minus infinity when the row's sum is zero. -/
theorem weight_range (z : Fin n → EReal) (j : Fin n) :
    weight z j = ⊥ ∨ ∃ r : ℝ, 0 ≤ r ∧ r ≤ 1 ∧ weight z j = (r : EReal) := by
  choose p h0 h1 hp using mass_range z
  have hs : (∑ k, mass z k) = ((∑ k, p k : ℝ) : EReal) := by
    simp only [hp]; exact (coe_sum _ _).symm
  have hle : p j ≤ ∑ k, p k := Finset.single_le_sum (fun k _ => h0 k) (Finset.mem_univ j)
  unfold weight
  rw [hs, hp]
  by_cases h : (∑ k, p k) = 0
  · left
    have hj : p j = 0 := le_antisymm (h ▸ hle) (h0 j)
    rw [h, hj]
    simp [Ideal.div]
  · right
    have hpos : 0 < ∑ k, p k := lt_of_le_of_ne (Finset.sum_nonneg fun k _ => h0 k) (Ne.symm h)
    refine ⟨p j * (1 / ∑ k, p k), mul_nonneg (h0 j) (one_div_nonneg.mpr hpos.le), ?_, ?_⟩
    · rw [mul_one_div]; exact div_le_one_of_le₀ hle hpos.le
    · rw [Ideal.div_coe h, EReal.coe_mul]

end Cert.Attention
-- ==== Proof.Rank.lean ====
/- The `p`-th largest of a finite family, as a count: `p + 1 ≤ #{j | t ≤ x j}` says exactly that `t` is at most it. -/
module

public import Idealize.ShloMosaic.Lib.SortFacts
public import Idealize.ShloMosaic.PureOps.Ideal

@[expose] public section

noncomputable section

namespace Cert.Attention

open Idealize.ShloMosaic

/-- "Greater than", as the total-order comparison of a descending sort reads it on extended reals. -/
def above (a b : EReal) : Bool := FloatOps.cmpfTotal (F := Ideal) (φ := .f32) .gt a b == 1#1

theorem above_eq (a b : EReal) : above a b = decide (b < a) := by
  unfold above
  change (BitVec.ofBool (decide (b < a)) == 1#1) = decide (b < a)
  cases decide (b < a) <;> rfl

/-- The member a descending sort of the family puts at place `p` (counted from 0). -/
def place {n : ℕ} (x : Fin n → EReal) (p : Fin n) : EReal := x (sortedFrom (fun k k' => above (x k) (x k')) p)

/-- At least `p + 1` members are `≥ t` exactly when `t` is at most the one at place `p`. -/
theorem le_place_iff {n : ℕ} (x : Fin n → EReal) (p : Fin n) (t : EReal) :
    t ≤ place x p ↔ p.val + 1 ≤ (Finset.univ.filter fun j => t ≤ x j).card := by
  unfold place
  set σ := sortedFrom (fun k k' => above (x k) (x k')) with hσ
  have hinj : Function.Injective σ := sortedFrom_injective _
  have hanti : ∀ i j : Fin n, i ≤ j → x (σ j) ≤ x (σ i) := by
    intro i j hij
    rcases hij.lt_or_eq with h | rfl
    · have := sortedFrom_noInversion (fun k k' => above (x k) (x k')) (fun k k' => above (x k) (x k'))
        (fun a b h => by simp only [above_eq, decide_eq_true_eq, decide_eq_false_iff_not] at h ⊢; exact not_lt.mpr h.le)
        (fun _ _ h => h)
        (fun a b c h h' => by
          simp only [above_eq, decide_eq_false_iff_not, not_lt] at h h' ⊢; exact h.trans h') i j h
      rw [above_eq, decide_eq_false_iff_not, not_lt] at this; exact this
    · exact le_rfl
  have hcard : (Finset.univ.filter fun j => t ≤ x j).card = (Finset.univ.filter fun k => t ≤ x (σ k)).card := by
    symm
    refine Finset.card_bij (fun k _ => σ k) (fun k hk => by simpa using hk) (fun _ _ _ _ h => hinj h) (fun j hj => ?_)
    obtain ⟨k, rfl⟩ := sortedFrom_surjective (fun k k' => above (x k) (x k')) j
    exact ⟨k, by simpa using hj, rfl⟩
  rw [hcard]
  constructor
  · intro h
    rw [← Fin.card_Iic]
    refine Finset.card_le_card fun k hk => ?_
    rw [Finset.mem_Iic] at hk
    simpa using h.trans (hanti k p hk)
  · intro h
    by_contra hlt
    rw [not_le] at hlt
    have : (Finset.univ.filter fun k => t ≤ x (σ k)).card ≤ (Finset.Iio p).card := by
      refine Finset.card_le_card fun k hk => ?_
      simp only [Finset.mem_filter, Finset.mem_univ, true_and] at hk
      rw [Finset.mem_Iio]
      by_contra hk'
      exact absurd (hk.trans (hanti p k (not_lt.mp hk'))) (not_le.mpr hlt)
    rw [Fin.card_Iio] at this
    omega

end Cert.Attention

end
-- ==== Proof.Floats.lean ====
/- What a nonnegative f32 bit pattern denotes, and how far it is to the next one. -/
module

public import Idealize.ShloMosaic.PureOps.Ideal
public import Idealize.ShloMosaic.PureOps.Ideal.Laws

@[expose] public section

noncomputable section

namespace Cert.Attention

open Idealize.ShloMosaic

/-- The real number of the nonnegative finite pattern `n`: exponent field `n / 2^23`, fraction `n % 2^23`. -/
def pat (n : ℕ) : ℝ :=
  if n / 2 ^ 23 = 0 then ((n % 2 ^ 23 : ℕ) : ℝ) * (2 : ℝ) ^ (-149 : ℤ)
  else ((2 ^ 23 + n % 2 ^ 23 : ℕ) : ℝ) * (2 : ℝ) ^ (((n / 2 ^ 23 : ℕ) : ℤ) - 127 - 23)

/-- Below the pattern of infinity the word `n` denotes `pat n`. -/
theorem ofBits_pat (n : ℕ) (h : n < 255 * 2 ^ 23) : Ideal.ofBits .f32 (BitVec.ofNat 32 n) = ((pat n : ℝ) : EReal) := by
  have hf : ((BitVec.ofNat 32 n).extractLsb' 0 23).toNat = n % 2 ^ 23 := by
    simp only [BitVec.extractLsb'_toNat, BitVec.toNat_ofNat, Nat.shiftRight_zero]; omega
  have he : ((BitVec.ofNat 32 n).extractLsb' 23 8).toNat = n / 2 ^ 23 := by
    simp only [BitVec.extractLsb'_toNat, BitVec.toNat_ofNat, Nat.shiftRight_eq_div_pow]; omega
  have hs : ((BitVec.ofNat 32 n).extractLsb' 31 1 == 1#1) = false := by
    have : ((BitVec.ofNat 32 n).extractLsb' 31 1) = 0#1 := by
      apply BitVec.eq_of_toNat_eq
      simp only [BitVec.extractLsb'_toNat, BitVec.toNat_ofNat, Nat.shiftRight_eq_div_pow]; omega
    rw [this]; rfl
  have h255 : n / 2 ^ 23 ≠ 2 ^ 8 - 1 := by omega
  unfold Ideal.ofBits Ideal.ieee pat
  simp only [hf, he, hs, h255, if_false]
  by_cases h0 : n / 2 ^ 23 = 0
  · simp only [h0, if_true]
    norm_num
  · simp only [h0, if_false]
    norm_num

theorem pat_nonneg (n : ℕ) : 0 ≤ pat n := by
  unfold pat; split <;> positivity

/-- One step up from the pattern `n` is at most `max (pat n) 2^-126 · 2^-23`. -/
theorem pat_step (n : ℕ) : pat (n + 1) ≤ pat n + max (pat n) ((2 : ℝ) ^ (-126 : ℤ)) * (2 : ℝ) ^ (-23 : ℤ) := by
  obtain ⟨q, r, hr, rfl⟩ : ∃ q r, r < 2 ^ 23 ∧ n = q * 2 ^ 23 + r := ⟨n / 2 ^ 23, n % 2 ^ 23, Nat.mod_lt _ (by norm_num), by omega⟩
  have hq : (q * 2 ^ 23 + r) / 2 ^ 23 = q := by omega
  have hm : (q * 2 ^ 23 + r) % 2 ^ 23 = r := by omega
  have two : (2 : ℝ) ≠ 0 := by norm_num
  -- the spacing at exponent `q`
  have hval : ∀ s : ℕ, s < 2 ^ 23 → pat (q * 2 ^ 23 + s) =
      if q = 0 then (s : ℝ) * (2 : ℝ) ^ (-149 : ℤ) else ((2 ^ 23 + s : ℕ) : ℝ) * (2 : ℝ) ^ ((q : ℤ) - 150) := by
    intro s hs
    have h1 : (q * 2 ^ 23 + s) / 2 ^ 23 = q := by omega
    have h2 : (q * 2 ^ 23 + s) % 2 ^ 23 = s := by omega
    unfold pat
    rw [h1, h2]
    have : (q : ℤ) - 127 - 23 = (q : ℤ) - 150 := by ring
    rw [this]
  -- the next pattern is one spacing up, also across an exponent's end
  have hnext : pat (q * 2 ^ 23 + r + 1) = pat (q * 2 ^ 23 + r) + (if q = 0 then (2 : ℝ) ^ (-149 : ℤ) else (2 : ℝ) ^ ((q : ℤ) - 150)) := by
    rw [hval r hr]
    by_cases hlast : r + 1 < 2 ^ 23
    · rw [Nat.add_assoc, hval (r + 1) hlast]
      by_cases h0 : q = 0
      · simp only [h0, if_true]; push_cast; ring
      · simp only [h0, if_false]; push_cast; ring
    · have hr' : r = 2 ^ 23 - 1 := by omega
      have h0' : q * 2 ^ 23 + r + 1 = (q + 1) * 2 ^ 23 := by omega
      have h1 : (q * 2 ^ 23 + r + 1) / 2 ^ 23 = q + 1 := by rw [h0']; exact Nat.mul_div_cancel _ (by norm_num)
      have h2 : (q * 2 ^ 23 + r + 1) % 2 ^ 23 = 0 := by rw [h0']; exact Nat.mul_mod_left _ _
      have h3 : pat (q * 2 ^ 23 + r + 1) = (2 : ℝ) ^ 23 * (2 : ℝ) ^ ((q : ℤ) - 149) := by
        unfold pat
        rw [h1, h2, if_neg (by omega)]
        have : (((q + 1 : ℕ) : ℤ)) - 127 - 23 = (q : ℤ) - 149 := by push_cast; ring
        rw [this]; push_cast; ring
      rw [h3, hr']
      by_cases h0 : q = 0
      · subst h0; simp only [if_true]; push_cast
        norm_num
      · simp only [h0, if_false]
        have : (2 : ℝ) ^ ((q : ℤ) - 149) = (2 : ℝ) ^ ((q : ℤ) - 150) * 2 := by
          rw [show ((q : ℤ) - 149) = ((q : ℤ) - 150) + 1 by ring, zpow_add_one₀ two]
        rw [this]; push_cast; ring
  rw [hnext]
  gcongr
  by_cases h0 : q = 0
  · rw [if_pos h0]
    calc (2 : ℝ) ^ (-149 : ℤ) = (2 : ℝ) ^ (-126 : ℤ) * (2 : ℝ) ^ (-23 : ℤ) := by rw [← zpow_add₀ two]; norm_num
      _ ≤ _ := by gcongr; exact le_max_right _ _
  · rw [if_neg h0]
    calc (2 : ℝ) ^ ((q : ℤ) - 150) = (2 : ℝ) ^ ((q : ℤ) - 127) * (2 : ℝ) ^ (-23 : ℤ) := by
          rw [← zpow_add₀ two]; congr 1; ring
      _ ≤ _ := by
        gcongr
        refine le_trans ?_ (le_max_left _ _)
        rw [hval r hr, if_neg h0]
        calc (2 : ℝ) ^ ((q : ℤ) - 127) = (2 : ℝ) ^ (23 : ℤ) * (2 : ℝ) ^ ((q : ℤ) - 150) := by
              rw [← zpow_add₀ two]; congr 1; ring
          _ ≤ _ := by
            gcongr
            push_cast
            have : (0 : ℝ) ≤ r := by positivity
            have h23 : (2 : ℝ) ^ (23 : ℤ) = 2 ^ 23 := by norm_cast
            rw [h23]; linarith

end Cert.Attention

end
-- ==== Proof.Bisect.lean ====
/- The thirty halvings of the kernel's threshold search, on 32-bit words: an interval whose left end satisfies a
   property and whose right end does not, halved thirty times from `[0, 0x3F800001)`, ends one wide. -/
module

public import Idealize.ShloMosaic.PureOps.Ideal

@[expose] public section

namespace Cert.Attention

/-- The middle of two words, as the kernel forms it. -/
def midWord (lo hi : BitVec 32) : BitVec 32 := (lo + hi) >>> 1

/-- One halving: keep the half whose left end satisfies `A` and whose right end does not. -/
def halve (A : BitVec 32 → Prop) [DecidablePred A] (s : BitVec 32 × BitVec 32) : BitVec 32 × BitVec 32 :=
  if A (midWord s.1 s.2) then (midWord s.1 s.2, s.2) else (s.1, midWord s.1 s.2)

theorem midWord_toNat {lo hi : BitVec 32} (h : lo.toNat + hi.toNat < 2 ^ 32) :
    (midWord lo hi).toNat = (lo.toNat + hi.toNat) / 2 := by
  unfold midWord
  rw [BitVec.toNat_ushiftRight, BitVec.toNat_add, Nat.mod_eq_of_lt h, Nat.shiftRight_eq_div_pow]

/-- What holds of the interval after `k` halvings. -/
structure Bracket (A : BitVec 32 → Prop) (k : ℕ) (s : BitVec 32 × BitVec 32) : Prop where
  left : A s.1
  right : ¬ A s.2
  lt : s.1.toNat < s.2.toNat
  bound : s.2.toNat ≤ 0x3F800001
  width : (s.2.toNat - s.1.toNat - 1) * 2 ^ k ≤ 0x3F800000

theorem Bracket.next {A : BitVec 32 → Prop} [DecidablePred A] {k : ℕ} {s : BitVec 32 × BitVec 32} (h : Bracket A k s) :
    Bracket A (k + 1) (halve A s) := by
  obtain ⟨lo, hi⟩ := s
  obtain ⟨hl, hr, hlt, hb, hw⟩ := h
  simp only at hl hr hlt hb hw
  have hm := midWord_toNat (lo := lo) (hi := hi) (by omega)
  have key : ∀ w : ℕ, w ≤ (hi.toNat - lo.toNat - 1) / 2 → w * 2 ^ (k + 1) ≤ 0x3F800000 := by
    intro w hw'
    calc w * 2 ^ (k + 1) = (w * 2) * 2 ^ k := by rw [pow_succ]; ring
      _ ≤ (hi.toNat - lo.toNat - 1) * 2 ^ k := Nat.mul_le_mul_right _ (by omega)
      _ ≤ _ := hw
  unfold halve
  by_cases hA : A (midWord lo hi)
  · rw [if_pos hA]
    exact ⟨hA, hr, by simp only; omega, hb, key _ (by simp only; omega)⟩
  · rw [if_neg hA]
    have hne : lo.toNat ≠ (midWord lo hi).toNat := fun e => hA (by rw [← BitVec.eq_of_toNat_eq e]; exact hl)
    exact ⟨hl, hA, by simp only; omega, by simp only; omega, key _ (by simp only; omega)⟩

/-- After thirty halvings the left end `n` satisfies the property, the word after it does not. -/
theorem Bracket.done {A : BitVec 32 → Prop} {s : BitVec 32 × BitVec 32} (h : Bracket A 30 s) :
    ∃ n : ℕ, n ≤ 0x3F800000 ∧ s.1 = BitVec.ofNat 32 n ∧ A (BitVec.ofNat 32 n) ∧ ¬ A (BitVec.ofNat 32 (n + 1)) := by
  obtain ⟨lo, hi⟩ := s
  obtain ⟨hl, hr, hlt, hb, hw⟩ := h
  simp only at hl hr hlt hb hw
  have hlo : lo = BitVec.ofNat 32 lo.toNat := by simp
  have hhi : hi = BitVec.ofNat 32 (lo.toNat + 1) := by
    apply BitVec.eq_of_toNat_eq
    rw [BitVec.toNat_ofNat]
    omega
  exact ⟨lo.toNat, by omega, hlo, hlo ▸ hl, hhi ▸ hr⟩

/-- The start: `A` holds of the word 0 and not of the word `0x3F800001`. -/
theorem Bracket.start {A : BitVec 32 → Prop} (h0 : A 0#32) (h1 : ¬ A 1065353217#32) : Bracket A 0 (0#32, 1065353217#32) :=
  ⟨h0, h1, by decide, by decide, by decide⟩

end Cert.Attention
-- ==== Proof.Threshold.lean ====
/-
  What the threshold search finds. The members `x j` of a family are searched by their bit patterns for the
  largest float `t` that at least thirty-two of them reach. If the thirty-second largest member, `kth`, is
  nonnegative and no member lies less than a float's spacing below it, then keeping the members `≥ t` and
  keeping the members `≥ kth` is the same.
-/
module

public import proofs.«01_k».proof.Proof.Rank
public import proofs.«01_k».proof.Proof.Floats
public import proofs.«01_k».proof.Proof.Bisect

@[expose] public section

noncomputable section

namespace Cert.Attention

open Idealize.ShloMosaic

variable {n : ℕ}

/-- "The float of this word is reached by at least thirty-two members", with the count summed as the kernel sums it. -/
def Reached (x : Fin n → EReal) (w : BitVec 32) : Prop :=
  Ideal.ofBits .f32 1107296256#32 ≤ ∑ j, if Ideal.ofBits .f32 w ≤ x j then (1 : EReal) else 0

instance (x : Fin n → EReal) : DecidablePred (Reached x) := fun _ => Classical.propDecidable _

theorem thirtyTwo : Ideal.ofBits .f32 1107296256#32 = ((32 : ℕ) : EReal) := by
  rw [show (1107296256#32 : BitVec 32) = BitVec.ofNat 32 1107296256 from rfl, ofBits_pat _ (by norm_num)]
  have : pat 1107296256 = 32 := by norm_num [pat]
  rw [this]; rfl

theorem reached_iff (x : Fin n → EReal) (w : BitVec 32) :
    Reached x w ↔ 32 ≤ (Finset.univ.filter fun j => Ideal.ofBits .f32 w ≤ x j).card := by
  unfold Reached
  rw [Finset.sum_boole, thirtyTwo, Nat.cast_le]

/-- A word is reached exactly when its float is at most the thirty-second largest member. -/
theorem reached_iff_le (x : Fin n → EReal) (hn : 31 < n) (w : BitVec 32) :
    Reached x w ↔ Ideal.ofBits .f32 w ≤ place x ⟨31, hn⟩ := by
  rw [reached_iff, le_place_iff]

/-- The spacing the members keep below `kth`. -/
def gap (kth : EReal) : EReal := max kth (Ideal.ofBits .f32 8388608#32) * Ideal.ofBits .f32 872415232#32

/-- The thirty-second largest member is nonnegative, and every member is at least it or a spacing below it. -/
def Separated (x : Fin n → EReal) (kth : EReal) : Prop :=
  0 ≤ kth ∧ ∀ j, kth ≤ x j ∨ x j + gap kth ≤ kth

theorem tiny : Ideal.ofBits .f32 8388608#32 = (((2 : ℝ) ^ (-126 : ℤ) : ℝ) : EReal) := by
  rw [show (8388608#32 : BitVec 32) = BitVec.ofNat 32 8388608 from rfl, ofBits_pat _ (by norm_num)]
  congr 1; norm_num [pat]

theorem ulp : Ideal.ofBits .f32 872415232#32 = (((2 : ℝ) ^ (-23 : ℤ) : ℝ) : EReal) := by
  rw [show (872415232#32 : BitVec 32) = BitVec.ofNat 32 872415232 from rfl, ofBits_pat _ (by norm_num)]
  congr 1; norm_num [pat]

theorem gap_coe (k : ℝ) : gap (k : EReal) = ((max k (2 ^ (-126 : ℤ)) * 2 ^ (-23 : ℤ) : ℝ) : EReal) := by
  unfold gap
  rw [tiny, ulp, EReal.coe_mul, ← (EReal.coe_strictMono.monotone.map_max : ((max k (2 ^ (-126 : ℤ)) : ℝ) : EReal) = _)]

/-- THE THRESHOLD: after thirty halvings the left end drops exactly the members below the thirty-second largest. -/
theorem below_iff (x : Fin n → EReal) (hn : 31 < n)
    (hx : ∀ j, x j = ⊥ ∨ ∃ r : ℝ, 0 ≤ r ∧ r ≤ 1 ∧ x j = (r : EReal))
    (hs : Separated x (place x ⟨31, hn⟩)) (st : ℕ → BitVec 32 × BitVec 32)
    (hst : st 0 = (0#32, 1065353217#32)) (hnext : ∀ k < 30, st (k + 1) = halve (Reached x) (st k)) (j : Fin n) :
    x j < Ideal.ofBits .f32 (st 30).1 ↔ x j < place x ⟨31, hn⟩ := by
  obtain ⟨h0, hsep⟩ := hs
  -- `kth` is one of the members, so a real in `[0, 1]`
  obtain ⟨k, hk0, hk1, hk⟩ : ∃ k : ℝ, 0 ≤ k ∧ k ≤ 1 ∧ place x ⟨31, hn⟩ = (k : EReal) := by
    rcases hx (sortedFrom (fun k k' => above (x k) (x k')) ⟨31, hn⟩) with h | h
    · have : place x ⟨31, hn⟩ = ⊥ := h
      rw [this] at h0; simp at h0
    · exact h
  have hone : pat 1065353217 = 1 + 2 ^ (-23 : ℤ) := by norm_num [pat]
  have hzero : pat 0 = 0 := by norm_num [pat]
  have start : Bracket (Reached x) 0 (0#32, 1065353217#32) := by
    refine Bracket.start ?_ ?_
    · rw [reached_iff_le x hn, show (0#32 : BitVec 32) = BitVec.ofNat 32 0 from rfl, ofBits_pat _ (by norm_num), hzero, hk]
      exact_mod_cast hk0
    · rw [reached_iff_le x hn, show (1065353217#32 : BitVec 32) = BitVec.ofNat 32 1065353217 from rfl,
        ofBits_pat _ (by norm_num), hone, hk, EReal.coe_le_coe_iff]
      have : (0 : ℝ) < 2 ^ (-23 : ℤ) := by positivity
      linarith
  have run : ∀ k ≤ 30, Bracket (Reached x) k (st k) := by
    intro k
    induction k with
    | zero => intro _; rw [hst]; exact start
    | succ k ih => intro hk30; rw [hnext k (by omega)]; exact (ih (by omega)).next
  obtain ⟨N, hN, hsN, hlo, hhi⟩ := (run 30 le_rfl).done
  rw [reached_iff_le x hn, ofBits_pat _ (by omega), hk, EReal.coe_le_coe_iff] at hlo
  rw [reached_iff_le x hn, ofBits_pat _ (by omega), hk, EReal.coe_le_coe_iff, not_le] at hhi
  rw [hsN, ofBits_pat _ (by omega), hk]
  constructor
  · exact fun h => lt_of_lt_of_le h (EReal.coe_le_coe_iff.mpr hlo)
  · intro h
    rcases hx j with hj | ⟨r, -, -, hj⟩
    · rw [hj]; exact EReal.bot_lt_coe _
    · have hg := (hsep j).resolve_left (by rw [hk]; exact not_le.mpr h)
      rw [hk, gap_coe, hj, ← EReal.coe_add, EReal.coe_le_coe_iff] at hg
      rw [hj, EReal.coe_lt_coe_iff]
      have h1 := pat_step N
      have h2 : max (pat N) (2 ^ (-126 : ℤ)) * 2 ^ (-23 : ℤ) ≤ max k (2 ^ (-126 : ℤ)) * 2 ^ (-23 : ℤ) :=
        mul_le_mul_of_nonneg_right (max_le_max_right _ hlo) (by positivity)
      linarith

end Cert.Attention
-- ==== Proof.Spec.lean ====
/-
  The layer as plain sums over the extended reals: features, edge scores, attention weights, the thirty-second
  largest weight of a row, and the result. Both programs are shown to compute `result`.
-/
module

public import proofs.«01_k».proof.Proof.Softmax
public import proofs.«01_k».proof.Proof.Threshold
public import Idealize.ShloMosaic.Lib.Pointwise

@[expose] public section

noncomputable section

namespace Cert.Attention

open Idealize.ShloMosaic

/-- The features of node `n` of batch `b`: row `n` of `h · W`. -/
def feature (h : Shape.Idx ⟨3, ![4, 1024, 256]⟩ → EReal) (W : Shape.Idx ⟨2, ![256, 256]⟩ → EReal)
    (b : Fin 4) (n : Fin 1024) (f : Fin 256) : EReal := ∑ x : Fin 256, h (ix3 b n x) * W (ix2 x f)

/-- The pair score before the nonlinearity: the first half of `a` against node `i`, the second against node `j`. -/
def energy (w : Fin 1024 → Fin 256 → EReal) (a : Fin 512 → EReal) (i j : Fin 1024) : EReal :=
  (∑ x : Fin 256, w i x * a ⟨x.val, by omega⟩) + ∑ x : Fin 256, w j x * a ⟨256 + x.val, by omega⟩

/-- The slope of the leaky rectifier. -/
def leak : EReal := Ideal.ofBits .f32 1045220557#32

/-- The leaky rectifier. -/
def leaky (e : EReal) : EReal := max e (leak * e)

/-- The masked score of the pair: the rectified energy on an edge, a large negative constant elsewhere. -/
def score (edge : Fin 1024 → BitVec 32) (w : Fin 1024 → Fin 256 → EReal) (a : Fin 512 → EReal) (i j : Fin 1024) : EReal :=
  Scalar.select (IntOp.cmpi .sgt (edge j) 0#32) (leaky (energy w a i j)) (Ideal.ofBits .f32 3657419678#32)

/-- The exponential linear unit. -/
def activate (y : EReal) : EReal := if 0 < y then y else Ideal.exp y - 1

/-- One entry of the result: the weights that are not below `t`, against column `f` of the features. -/
def gather (x : Fin 1024 → EReal) (t : EReal) (w : Fin 1024 → Fin 256 → EReal) (f : Fin 256) : EReal :=
  activate (∑ j, (if x j < t then 0 else x j) * w j f)

/-- The thirty-second largest of a row's weights. -/
def kth (x : Fin 1024 → EReal) : EReal := place x ⟨31, by norm_num⟩

section
variable (h : Shape.Idx ⟨3, ![4, 1024, 256]⟩ → EReal) (adj : Shape.Idx ⟨3, ![4, 1024, 1024]⟩ → BitVec 32)
  (W : Shape.Idx ⟨2, ![256, 256]⟩ → EReal) (a : Shape.Idx ⟨2, ![512, 1]⟩ → EReal)

/-- The attention weights of row `i` of batch `b`. -/
def row (b : Fin 4) (i : Fin 1024) : Fin 1024 → EReal :=
  weight (score (fun j => adj (ix3 b i j)) (feature h W b) (fun k => a (ix2 k 0)) i)

/-- THE RESULT at `(b, i, f)`. -/
def result (b : Fin 4) (i : Fin 1024) (f : Fin 256) : EReal :=
  gather (row h adj W a b i) (kth (row h adj W a b i)) (feature h W b) f
end

end Cert.Attention
-- ==== Proof.BlockValue.lean ====
/-
  The block of one grid point, read entry by entry over the extended reals.
-/
module

public import proofs.«01_k».proof.Proof.Block
public import proofs.«01_k».proof.Proof.Spec

@[expose] public section

set_option maxRecDepth 16384

noncomputable section

namespace Cert.KernelIdeal.Result

open Cert.KernelIdeal Cert.KernelIdeal.Gen Cert.Attention
open Idealize.ShloMosaic

/-- The point's row `r` is row `512 · i₁ + r` of the batch. -/
def rowOf (i : grid1.Coords) (r : Fin 512) : Fin 1024 :=
  ⟨512 * (i 1).val + r.val, by have : (i 1).val < 2 := (i 1).isLt; omega⟩

theorem off_eq (i : grid1.Coords) : k1_off1 i = ![0, 512 * (i 1).val, 0] := by
  have key : ∀ q : Fin 2, (![0, (Scalar.indexCast (Scalar.muli (BitVec.ofNat 32 q.val) 512#32)).toNat, 0] : Fin 3 → Nat)
      = ![0, 512 * q.val, 0] := by decide
  exact key (i 1)

theorem rows_apply (i : grid1.Coords) (x0 : FVec Ideal S1x1024x256 .f32) (r : Fin 512) (f : Fin 256) :
    View.ld (Val := Elt Ideal) (e' := .f32) x0 (Rect.unit (s := S1x1024x256) (k1_off1 i) S1x512x256.size (k1_off1_inb i)) (ix3 0 r f)
      = x0 (ix3 0 (rowOf i r) f) := by
  show x0 _ = x0 _
  congr 1
  funext a
  apply Fin.ext
  have h := congrFun (off_eq i)
  fin_cases a
  · show (k1_off1 i 0 + 1 * 0 : ℕ) = 0; exact congrArg (· + 1 * 0) (h 0)
  · show (k1_off1 i 1 + 1 * r.val : ℕ) = 512 * (i 1).val + r.val; rw [one_mul]; exact congrArg (· + r.val) (h 1)
  · show (k1_off1 i 2 + 1 * f.val : ℕ) = f.val; rw [one_mul]; exact (congrArg (· + f.val) (h 2)).trans (Nat.zero_add _)

variable (i : grid1.Coords) (x0 : FVec Ideal S1x1024x256 .f32) (x1 : IVec S1x1024x512 32) (x2 : FVec Ideal S1x512 .f32)

/-- Column `r` of the weights: the softmax of the scores of row `rowOf i r`. -/
theorem weights_apply (j : Fin 1024) (r : Fin 512) :
    weights (F := Ideal) i x0 x1 x2 (ix2 j r)
      = weight (score (fun j => x1 (ix3 0 j r)) (fun n f => x0 (ix3 0 n f)) (fun k => x2 (ix2 0 k)) (rowOf i r)) j := by
  unfold weights
  generalize hv : View.ld (Val := Elt Ideal) (e' := .f32) x0 (Rect.unit (s := S1x1024x256) (k1_off1 i) S1x512x256.size (k1_off1_inb i)) = v10
  have hrow : ∀ y : Fin 256, v10 (ix3 0 r y) = x0 (ix3 0 (rowOf i r) y) := fun y => by rw [← hv]; exact rows_apply i x0 r y
  have he : ∀ k : Fin 1024,
      (∑ x : Fin 256, x2 (ix2 0 ⟨256 + x.val, by omega⟩) * x0 (ix3 0 k x)) + ∑ x : Fin 256, v10 (ix3 0 r x) * x2 (ix2 0 ⟨x.val, by omega⟩)
        = energy (fun n f => x0 (ix3 0 n f)) (fun k => x2 (ix2 0 k)) (rowOf i r) k := fun k => by
    unfold energy
    rw [add_comm]
    congr 1
    · exact Finset.sum_congr rfl fun y _ => by rw [hrow]
    · exact Finset.sum_congr rfl fun y _ => mul_comm _ _
  pointwise [k1_pay10, k1_pay9]
  simp only [he]
  rfl

theorem mid_eq (a b : BitVec 32) : IntOp.shrui ArithUnit.vector (IntOp.addi a b) 1#32 = midWord a b := rfl

/-- The search's comparison, per column. -/
theorem bit_eq (lo hi : IVec S1x512 32) (x : FVec Ideal S1024x512 .f32) (r : Fin 512) :
    k1_pay5 (F := Ideal) lo hi x (ix2 0 r) = BitVec.ofBool (decide (Reached (fun j => x (ix2 j r)) (midWord (lo (ix2 0 r)) (hi (ix2 0 r))))) := by
  pointwise [k1_pay5, k1_pay4]
  rw [mid_eq]
  unfold Reached
  congr

theorem mid_apply (lo hi : IVec S1x512 32) (r : Fin 512) :
    k1_pay4 lo hi (ix2 0 r) = midWord (lo (ix2 0 r)) (hi (ix2 0 r)) := by
  pointwise [k1_pay4]
  exact mid_eq _ _

/-- One trip halves the interval of every column. -/
theorem halve_apply (lo hi : IVec S1x512 32) (x : FVec Ideal S1024x512 .f32) (r : Fin 512) :
    (k1_pay6 (F := Ideal) lo hi x (ix2 0 r), k1_pay7 (F := Ideal) lo hi x (ix2 0 r))
      = halve (Reached fun j => x (ix2 j r)) (lo (ix2 0 r), hi (ix2 0 r)) := by
  have h6 : k1_pay6 (F := Ideal) lo hi x (ix2 0 r)
      = Scalar.select (k1_pay5 (F := Ideal) lo hi x (ix2 0 r)) (k1_pay4 lo hi (ix2 0 r)) (lo (ix2 0 r)) := rfl
  have h7 : k1_pay7 (F := Ideal) lo hi x (ix2 0 r)
      = Scalar.select (k1_pay5 (F := Ideal) lo hi x (ix2 0 r)) (hi (ix2 0 r)) (k1_pay4 lo hi (ix2 0 r)) := rfl
  rw [h6, h7, bit_eq, mid_apply]
  unfold halve Scalar.select
  by_cases h : Reached (fun j => x (ix2 j r)) (midWord (lo (ix2 0 r)) (hi (ix2 0 r)))
  · simp [h]
  · simp [h]

theorem gather_apply (lo : IVec S1x512 32) (x : FVec Ideal S1024x512 .f32) (r : Fin 512) (f : Fin 256) :
    k1_pay8 (F := Ideal) (k1_pay9 x0) lo x (ix3 0 r f)
      = gather (fun j => x (ix2 j r)) (Ideal.ofBits .f32 (lo (ix2 0 r))) (fun n f => x0 (ix3 0 n f)) f := by
  pointwise [k1_pay8, k1_pay9]
  rfl

/-- THE BLOCK'S ENTRY: on a separated row the search's threshold acts as the row's thirty-second largest weight. -/
theorem block_apply (r : Fin 512) (f : Fin 256) (x : Fin 1024 → EReal)
    (hx : x = weight (score (fun j => x1 (ix3 0 j r)) (fun n f => x0 (ix3 0 n f)) (fun k => x2 (ix2 0 k)) (rowOf i r)))
    (hs : Separated x (kth x)) :
    block (F := Ideal) i x0 x1 x2 (ix3 0 r f) = gather x (kth x) (fun n f => x0 (ix3 0 n f)) f := by
  have hw : (fun j => weights (F := Ideal) i x0 x1 x2 (ix2 j r)) = x := by
    rw [hx]; exact funext fun j => weights_apply i x0 x1 x2 j r
  have hiff := below_iff x (by norm_num) (fun j => by rw [hx]; exact weight_range _ j) hs
    (fun k => ((search (weights (F := Ideal) i x0 x1 x2) k).1 (ix2 0 r), (search (weights (F := Ideal) i x0 x1 x2) k).2 (ix2 0 r)))
    rfl (fun k _ => by
      have h := halve_apply (search (weights (F := Ideal) i x0 x1 x2) k).1 (search (weights (F := Ideal) i x0 x1 x2) k).2
        (weights (F := Ideal) i x0 x1 x2) r
      rw [hw] at h
      exact h)
  unfold block
  rw [gather_apply, hw]
  unfold gather
  simp only [hiff]
  rfl

end Cert.KernelIdeal.Result
-- ==== Proof.Arrays.lean ====
/-
  The kernel's arrays: what the first launch leaves (the features), what the host stretch hands on (the score vector as
  a row, the adjacency transposed), and what the second launch leaves (the layer's result).
-/
module

public import proofs.«01_k».proof.Proof.BlockValue
public import Idealize.ShloMosaic.Lib.Pipeline.ValueKit

@[expose] public section

set_option maxRecDepth 16384

noncomputable section

namespace Cert.KernelIdeal.Result

open Cert.KernelIdeal Cert.KernelIdeal.Gen Cert.Attention
open Idealize.ShloMosaic Idealize.ShloMosaic.TcCoe

variable (m : (ℓ : Loc nD τ sig) → Buf (Elt Ideal) ℓ) (ρ : Dev nD → PrngReg) (c : Dev nD)

/-- The node inputs as launched. -/
abbrev hIn : FVec Ideal S4x1024x256 .f32 := m ((c : Thread nD τ).loc main_arg0)
/-- The adjacency as launched. -/
abbrev adjIn : IVec S4x1024x1024 32 := m ((c : Thread nD τ).loc main_arg1)
/-- The weight matrix as launched. -/
abbrev wIn : FVec Ideal S256x256 .f32 := m ((c : Thread nD τ).loc main_arg2)
/-- The score vector as launched. -/
abbrev aIn : FVec Ideal S512x1 .f32 := m ((c : Thread nD τ).loc main_arg3)

/-- The features as an array. -/
def features : FVec Ideal S4x1024x256 .f32 := fun i => feature (hIn m c) (wIn m c) (i 0) (i 1) (i 2)

theorem pay_apply (v0 : FVec Ideal S1x1024x256 .f32) (v2 : FVec Ideal S256x256 .f32) (n : Fin 1024) (f : Fin 256) :
    k0_pay1 (F := Ideal) v0 v2 (ix3 0 n f) = ∑ x : Fin 256, v0 (ix3 0 n x) * v2 (ix2 x f) := by
  pointwise [k0_pay1]

theorem idx0 : ∀ t : Fin grid0.N, win0_0.index t = ![t.val, 0, 0] ∧ win0_1.index t = ![0, 0] ∧ win0_2.index t = ![t.val, 0, 0] := by
  decide +kernel

/-- The first launch leaves the features. -/
theorem first_array : (dat0 (F := Ideal) (V0 m ρ) c).arrAt 2 cfg0.N = features m c := by
  refine (dat0 (F := Ideal) (V0 m ρ) c).arrAt_eq_of_covers 2 _ (by decide +kernel) fun t hf y => ?_
  blk_simp
  rw [after0_2]
  frame_out
  obtain ⟨n, f, rfl⟩ : ∃ (n : Fin 1024) (f : Fin 256), y = ix3 (0 : Fin 1) n f :=
    ⟨y 1, y 2, funext fun a => by
      fin_cases a
      · exact Fin.ext (by have := (y 0).isLt; have e : (y 0).val < 1 := this; show (y 0).val = 0; omega)
      · rfl
      · rfl⟩
  refine (pay_apply _ _ n f).trans ?_
  have ht : t.val < 4 := t.isLt
  have e : ((View.whole main_v0).slice (win0_2.rect t)).emb (ix3 (0 : Fin 1) n f) = ix3 (⟨t.val, ht⟩ : Fin 4) n f := by
    blk_ext [idx0 t]
  rw [e]
  show _ = feature (hIn m c) (wIn m c) ⟨t.val, ht⟩ n f
  unfold feature
  refine Finset.sum_congr rfl fun x _ => ?_
  congr 1
  · blk_ext [iblk0, V0, idx0 t]
  · blk_ext [iblk0, V0, idx0 t]

theorem V2_features : V2 m ρ c main_v0 = features m c :=
  (W2_of m ρ c main_v0 (by decide)).trans ((W1_arr m ρ c 2).trans (first_array m ρ c))

theorem V2_row (k : Fin 512) : (V2 m ρ c main_v1 : FVec Ideal S1x512 .f32) (ix2 0 k) = aIn m c (ix2 k 0) := by
  have h : V2 m ρ c main_v1 = shapeCast S1x512 (aIn m c) shapeCasts_S512x1_S1x512 := by
    have e : V2 m ρ c main_v1 = shapeCast S1x512 (W1 m ρ c (Proc.devRef .tc main_arg3) : FVec Ideal S512x1 .f32) shapeCasts_S512x1_S1x512 := by
      unfold_abbrev_sides
      after_results
      rfl
    rw [e, W1_args m ρ c main_arg3 (by decide)]
  rw [h]
  pointwise

theorem V2_adj (b : Fin 4) (i j : Fin 1024) : (V2 m ρ c main_v2 : IVec S4x1024x1024 32) (ix3 b j i) = adjIn m c (ix3 b i j) := by
  have h : V2 m ρ c main_v2 = transpose S4x1024x1024 [0, 2, 1] (adjIn m c) transposes_S4x1024x1024_S4x1024x1024_0_2_1 := by
    have e : V2 m ρ c main_v2 = transpose S4x1024x1024 [0, 2, 1] (W1 m ρ c (Proc.devRef .tc main_arg1) : IVec S4x1024x1024 32)
        transposes_S4x1024x1024_S4x1024x1024_0_2_1 := by
      unfold_abbrev_sides
      after_results
    rw [e, W1_args m ρ c main_arg1 (by decide)]
  rw [h]
  pointwise

theorem idx1 : ∀ t : Fin grid1.N, win1_0.index t = ![t.val / 2, 0, 0] ∧ win1_1.index t = ![t.val / 2, 0, t.val % 2]
    ∧ win1_2.index t = ![0, 0] ∧ win1_3.index t = ![t.val / 2, t.val % 2, 0] ∧ (grid1.coords t 1).val = t.val % 2 := by
  decide +kernel

/-- The batch of the second launch's point `t`. -/
def batchOf (t : Fin cfg1.N) : Fin 4 := ⟨t.val / 2, by have : t.val < 8 := t.isLt; omega⟩

theorem block_features (t : Fin cfg1.N) (n : Fin 1024) (f : Fin 256) :
    (iblk1 (V2 m ρ) c 0 t : FVec Ideal S1x1024x256 .f32) (ix3 0 n f) = feature (hIn m c) (wIn m c) (batchOf t) n f := by
  have h : (iblk1 (V2 m ρ) c 0 t : FVec Ideal S1x1024x256 .f32) (ix3 0 n f) = (V2 m ρ c main_v0 : FVec Ideal S4x1024x256 .f32) (ix3 (batchOf t) n f) := by
    blk_ext [iblk1, batchOf, idx1 t]
  rw [h, V2_features]
  rfl

theorem block_adj (t : Fin cfg1.N) (j : Fin 1024) (r : Fin 512) :
    (iblk1 (V2 m ρ) c 1 t : IVec S1x1024x512 32) (ix3 0 j r) = adjIn m c (ix3 (batchOf t) (rowOf (grid1.coords t) r) j) := by
  have h : (iblk1 (V2 m ρ) c 1 t : IVec S1x1024x512 32) (ix3 0 j r)
      = (V2 m ρ c main_v2 : IVec S4x1024x1024 32) (ix3 (batchOf t) j (rowOf (grid1.coords t) r)) := by
    blk_ext [iblk1, batchOf, rowOf, idx1 t]
  rw [h, V2_adj]

theorem block_row (t : Fin cfg1.N) (k : Fin 512) :
    (iblk1 (V2 m ρ) c 2 t : FVec Ideal S1x512 .f32) (ix2 0 k) = aIn m c (ix2 k 0) := by
  have h : (iblk1 (V2 m ρ) c 2 t : FVec Ideal S1x512 .f32) (ix2 0 k) = (V2 m ρ c main_v1 : FVec Ideal S1x512 .f32) (ix2 0 k) := by
    blk_ext [iblk1, idx1 t]
  rw [h, V2_row]

/-- The layer's result as an array. -/
def answer : FVec Ideal S4x1024x256 .f32 :=
  fun i => result (hIn m c) (adjIn m c) (wIn m c) (aIn m c) (i 0) (i 1) (i 2)

/-- THE SECOND LAUNCH leaves the layer's result, when every row is separated. -/
theorem second_array
    (hs : ∀ (b : Fin 4) (i : Fin 1024), Separated (row (hIn m c) (adjIn m c) (wIn m c) (aIn m c) b i)
      (kth (row (hIn m c) (adjIn m c) (wIn m c) (aIn m c) b i))) :
    (dat1 (F := Ideal) (V2 m ρ) c).arrAt 3 cfg1.N = answer m c := by
  refine (dat1 (F := Ideal) (V2 m ρ) c).arrAt_eq_of_covers 3 _ (by decide +kernel) fun t hf y => ?_
  blk_simp
  rw [after1_3]
  unfold outsAt1
  rw [out_eq]
  obtain ⟨r, f, rfl⟩ : ∃ (r : Fin 512) (f : Fin 256), y = ix3 (0 : Fin 1) r f :=
    ⟨y 1, y 2, funext fun a => by
      fin_cases a
      · exact Fin.ext (by have := (y 0).isLt; have e : (y 0).val < 1 := this; show (y 0).val = 0; omega)
      · rfl
      · rfl⟩
  have e : ((View.whole main_v3).slice (win1_3.rect t)).emb (ix3 (0 : Fin 1) r f)
      = ix3 (batchOf t) (rowOf (grid1.coords t) r) f := by
    blk_ext [batchOf, rowOf, idx1 t]
  rw [e]
  have hrow : row (hIn m c) (adjIn m c) (wIn m c) (aIn m c) (batchOf t) (rowOf (grid1.coords t) r)
      = weight (score (fun j => (iblk1 (V2 m ρ) c 1 t : IVec S1x1024x512 32) (ix3 0 j r))
          (fun n f => (iblk1 (V2 m ρ) c 0 t : FVec Ideal S1x1024x256 .f32) (ix3 0 n f))
          (fun k => (iblk1 (V2 m ρ) c 2 t : FVec Ideal S1x512 .f32) (ix2 0 k)) (rowOf (grid1.coords t) r)) := by
    simp only [block_features, block_adj, block_row]
    rfl
  refine (block_apply (grid1.coords t) _ _ _ r f _ hrow (hs _ _)).trans ?_
  simp only [block_features]
  rfl

end Cert.KernelIdeal.Result
-- ==== Proof.HostReads.lean ====
/-
  Host operations of the reference read at an index: the row maximum, the thirty-second largest of a row, and the
  scalar laws by which the reference's spelling of the rectifiers and of the mask is the specification's.
-/
module

public import proofs.«01_k».proof.Proof.Spec

@[expose] public section

set_option maxRecDepth 16384

noncomputable section

namespace Cert.Attention

open Idealize.ShloMosaic

/-- The host's row maximum. -/
theorem rowMax_apply (z : FVec Ideal ⟨3, ![4, 1024, 1024]⟩ .f32) (v : FVec Ideal ⟨0, ![]⟩ .f32)
    (h : (⟨3, ![4, 1024, 1024]⟩ : Shape).ReducesTo [2] ⟨2, ![4, 1024]⟩) (hu : 0 < (⟨0, ![]⟩ : Shape).numel) (b : Fin 4) (i : Fin 1024) :
    Host.reduce (FloatOps.maximumf (F := Ideal) (φ := .f32)) z v h hu (ix2 b i)
      = Finset.univ.fold max (v ix0) (fun j => z (ix3 b i j)) := by
  pointwise
  rw [show Shape.Idx.first hu = ix0 from funext fun k => k.elim0]

/-- Place 31 of the host's top-32 of a row is the row's thirty-second largest. -/
theorem top_apply (x : FVec Ideal ⟨3, ![4, 1024, 1024]⟩ .f32)
    (h : (⟨3, ![4, 1024, 1024]⟩ : Shape).Slices (fun _ => 0) ⟨3, ![4, 1024, 32]⟩) (b : Fin 4) (i : Fin 1024) :
    (Host.topK (s := ⟨3, ![4, 1024, 1024]⟩) ⟨3, ![4, 1024, 32]⟩ 2 (FloatOps.cmpfTotal (F := Ideal) (φ := .f32) .gt) x h).1 (ix3 b i 31)
      = kth (fun j => x (ix3 b i j)) := by
  unfold Host.topK
  dsimp only
  pointwise
  unfold Host.sort2
  rw [dif_pos (show 2 < 3 by norm_num)]
  dsimp only
  have hal : ∀ k : Fin 1024, Shape.Idx.along (s := ⟨3, ![4, 1024, 1024]⟩) (ix3 b i 31) (2 : Fin 3) k = ix3 b i k := by
    intro k; funext d; fin_cases d <;> rfl
  unfold kth place
  refine (congrArg x (hal _)).trans ?_
  refine congrArg x (congrArg (ix3 b i) (congrArg₂ sortedFrom ?_ (Fin.ext rfl)))
  funext k k'
  exact congrArg₂ above (congrArg x (hal k)) (congrArg x (hal k'))

/-- The slope is a real strictly between zero and one. -/
theorem leak_range : ∃ s : ℝ, 0 < s ∧ s < 1 ∧ leak = (s : EReal) := by
  refine ⟨pat 1045220557, ?_, ?_, ?_⟩
  · norm_num [pat]
  · norm_num [pat]
  · unfold leak
    rw [show (1045220557#32 : BitVec 32) = BitVec.ofNat 32 1045220557 from rfl, ofBits_pat _ (by norm_num)]

/-- The leaky rectifier by a comparison is the maximum with the scaled value. -/
theorem leaky_eq (e : EReal) : (if 0 ≤ e then e else leak * e) = leaky e := by
  obtain ⟨s, h0, h1, hs⟩ := leak_range
  unfold leaky
  rw [hs]
  induction e with
  | bot => rw [if_neg (by simp), EReal.coe_mul_bot_of_pos h0]; simp
  | top => rw [if_pos (by simp), EReal.coe_mul_top_of_pos h0]; simp
  | coe r =>
    rw [← EReal.coe_mul]
    by_cases h : 0 ≤ r
    · rw [if_pos (by exact_mod_cast h), max_eq_left (EReal.coe_le_coe_iff.mpr (by nlinarith))]
    · rw [if_neg (by exact_mod_cast h), max_eq_right (EReal.coe_le_coe_iff.mpr (by nlinarith))]

/-- The reference's exponential linear unit, whose inner choice keeps the exponential off the positive side. -/
theorem activate_eq (y : EReal) : (if 0 < y then y else Ideal.exp (if 0 < y then 0 else y) - 1) = activate y := by
  unfold activate
  split <;> rfl

theorem max_top (z : Fin 1024 → EReal) : max (Ideal.ofBits .f32 4286578688#32) (top z) = top z :=
  max_eq_right ((Finset.le_fold_max _).mpr (.inl le_rfl))

end Cert.Attention
-- ==== Proof.Reference.lean ====
/-
  What the reference computes: its operations grouped into named steps, each step read at an index, and from them its
  result as `Cert.Attention.result` of its arguments.
-/
module

public import proofs.«01_k».proof.Proof.HostReads
public import proofs.«01_k».proof.Proof.Gen.ReferenceIdeal.Run

@[expose] public section

set_option maxRecDepth 16384

noncomputable section

namespace Cert.ReferenceIdeal.Result

open Idealize.ShloMosaic Cert.Attention Cert.ReferenceIdeal.Value Cert.ReferenceIdeal Cert.ReferenceIdeal.Gen

section
variable (h : FVec Ideal S4x1024x256 .f32) (adj : IVec S4x1024x1024 32) (W : FVec Ideal S256x256 .f32) (a : FVec Ideal S512x1 .f32)

/-- The node features as the host computes them. -/
def hostFeatures : FVec Ideal S4x1024x256 .f32 :=
  Host.dotGeneral dot_S4x1024x256_S256x256_S4x1024x256_2_0_01_1_n_n none h W

theorem features_apply (b : Fin 4) (i : Fin 1024) (f : Fin 256) : hostFeatures h W (ix3 b i f) = feature h W b i f := by
  unfold hostFeatures
  pointwise
  rfl

/-- The pair scores of given features, before the rectifier. -/
def hostEnergy (w : FVec Ideal S4x1024x256 .f32) : FVec Ideal S4x1024x1024 .f32 :=
  addf (broadcastInDim S4x1024x1024 ![0, 1, 2] bcast_S4x1024x1_S4x1024x1024_0_1_2 (Host.dotGeneral dot_S4x1024x256_S256x1_S4x1024x1_2_0_01_1_n_n none w (extractStridedSlice S256x1 ![0, 0] a slices_S512x1_S256x1_0_0))) (broadcastInDim S4x1024x1024 ![0, 1, 2] bcast_S4x1x1024_S4x1024x1024_0_1_2 (transpose S4x1x1024 [0, 2, 1] (Host.dotGeneral dot_S4x1024x256_S256x1_S4x1024x1_2_0_01_1_n_n none w (extractStridedSlice S256x1 ![256, 0] a slices_S512x1_S256x1_256_0)) transposes_S4x1024x1_S4x1x1024_0_2_1))

theorem energy_apply (w : FVec Ideal S4x1024x256 .f32) (b : Fin 4) (i j : Fin 1024) :
    hostEnergy a w (ix3 b i j) = energy (fun n f => w (ix3 b n f)) (fun k => a (ix2 k 0)) i j := by
  unfold hostEnergy
  pointwise
  rfl

/-- Given pair scores rectified, and masked off the edges. -/
def hostMask (e : FVec Ideal S4x1024x1024 .f32) : FVec Ideal S4x1024x1024 .f32 :=
  select (cmpi .sgt adj (broadcastInDim S4x1024x1024 ![] bcast_S_S4x1024x1024 (constantI S_ 32 0#32))) (select (cmpf .oge e (broadcastInDim S4x1024x1024 ![] bcast_S_S4x1024x1024 (constant S_ .f32 0x00000000#32))) e (mulf (broadcastInDim S4x1024x1024 ![] bcast_S_S4x1024x1024 (constant S_ .f32 0x3E4CCCCD#32)) e)) (mulf (broadcastInDim S4x1024x1024 ![] bcast_S_S4x1024x1024 (constant S_ .f32 0xD9FFCB9E#32)) (broadcastInDim S4x1024x1024 ![] bcast_S_S4x1024x1024 (constant S_ .f32 0x3F800000#32)))

theorem mask_apply (e : FVec Ideal S4x1024x1024 .f32) (b : Fin 4) (i j : Fin 1024) :
    hostMask adj e (ix3 b i j)
      = Scalar.select (IntOp.cmpi .sgt (adj (ix3 b i j)) 0#32) (leaky (e (ix3 b i j))) (Ideal.ofBits .f32 3657419678#32) := by
  unfold hostMask
  pointwise
  exact congrArg (fun t => Scalar.select _ t _) (leaky_eq _)

/-- The masked scores as the host computes them. -/
def hostScores : FVec Ideal S4x1024x1024 .f32 := hostMask adj (hostEnergy a (hostFeatures h W))

theorem scores_apply (b : Fin 4) (i j : Fin 1024) :
    hostScores h adj W a (ix3 b i j) = score (fun j => adj (ix3 b i j)) (feature h W b) (fun k => a (ix2 k 0)) i j := by
  unfold hostScores
  rw [mask_apply, energy_apply]
  simp only [features_apply]
  rfl
end

/-- The largest score of every row. -/
def tops (z : FVec Ideal S4x1024x1024 .f32) : FVec Ideal S4x1024 .f32 :=
  Host.reduce (FloatOps.maximumf (F := Ideal) (φ := .f32)) z (constant S_ .f32 0xFF800000#32) reducesTo_S4x1024x1024_S4x1024_d2 h_S_

theorem fold_eq_top (z : Fin 1024 → EReal) :
    Finset.univ.fold max ((constant S_ .f32 0xFF800000#32 : FVec Ideal S_ .f32) ix0) z = top z := by
  unfold top
  pointwise

theorem tops_apply (z : FVec Ideal S4x1024x1024 .f32) (b : Fin 4) (i : Fin 1024) :
    tops z (ix2 b i) = top (fun j => z (ix3 b i j)) := by
  unfold tops
  rw [rowMax_apply, fold_eq_top]

/-- The exponentials of the scores' distances to the given row values, none of them taken below −∞. -/
def powers (z : FVec Ideal S4x1024x1024 .f32) (r : FVec Ideal S4x1024 .f32) : FVec Ideal S4x1024x1024 .f32 :=
  Host.exp (subf z (broadcastInDim S4x1024x1024 ![0, 1, 2] bcast_S4x1024x1_S4x1024x1024_0_1_2 (broadcastInDim S4x1024x1 ![0, 1] bcast_S4x1024_S4x1024x1_0_1 (maximumf (broadcastInDim S4x1024 ![] bcast_S_S4x1024 (constant S_ .f32 0xFF800000#32)) r))))

theorem powers_apply (z : FVec Ideal S4x1024x1024 .f32) (r : FVec Ideal S4x1024 .f32) (b : Fin 4) (i j : Fin 1024) :
    powers z r (ix3 b i j) = Ideal.exp (z (ix3 b i j) - max (Ideal.ofBits .f32 4286578688#32) (r (ix2 b i))) := by
  unfold powers
  pointwise

theorem masses_apply (z : FVec Ideal S4x1024x1024 .f32) (b : Fin 4) (i j : Fin 1024) :
    powers z (tops z) (ix3 b i j) = mass (fun j => z (ix3 b i j)) j := by
  rw [powers_apply, tops_apply, max_top]
  rfl

/-- Every entry over its row's sum. -/
def shares (e : FVec Ideal S4x1024x1024 .f32) : FVec Ideal S4x1024x1024 .f32 :=
  Host.divf e (broadcastInDim S4x1024x1024 ![0, 1, 2] bcast_S4x1024x1_S4x1024x1024_0_1_2 (broadcastInDim S4x1024x1 ![0, 1] bcast_S4x1024_S4x1024x1_0_1 (Host.reduceAdd e (constant S_ .f32 0x00000000#32) reducesTo_S4x1024x1024_S4x1024_d2 h_S_)))

theorem shares_apply (e : FVec Ideal S4x1024x1024 .f32) (b : Fin 4) (i j : Fin 1024) :
    shares e (ix3 b i j) = Ideal.div (e (ix3 b i j)) (∑ k, e (ix3 b i k)) := by
  unfold shares
  pointwise

/-- The two steps together are the attention weights of every row. -/
theorem soft_apply (z : FVec Ideal S4x1024x1024 .f32) (b : Fin 4) (i j : Fin 1024) :
    shares (powers z (tops z)) (ix3 b i j) = weight (fun j => z (ix3 b i j)) j := by
  rw [shares_apply]
  simp only [masses_apply]
  rfl

/-- The attention weights as the host computes them. -/
def hostWeights (h : FVec Ideal S4x1024x256 .f32) (adj : IVec S4x1024x1024 32) (W : FVec Ideal S256x256 .f32)
    (a : FVec Ideal S512x1 .f32) : FVec Ideal S4x1024x1024 .f32 :=
  shares (powers (hostScores h adj W a) (tops (hostScores h adj W a)))

theorem weights_apply (h : FVec Ideal S4x1024x256 .f32) (adj : IVec S4x1024x1024 32) (W : FVec Ideal S256x256 .f32)
    (a : FVec Ideal S512x1 .f32) (b : Fin 4) (i j : Fin 1024) :
    hostWeights h adj W a (ix3 b i j) = row h adj W a b i j := by
  unfold hostWeights
  rw [soft_apply]
  simp only [scores_apply]
  rfl

/-- The thresholded weights against the features, as an operation on both. -/
def kept (x : FVec Ideal S4x1024x1024 .f32) (w : FVec Ideal S4x1024x256 .f32) : FVec Ideal S4x1024x256 .f32 :=
  Host.dotGeneral dot_S4x1024x1024_S4x1024x256_S4x1024x256_2_1_1_2_0_0 none (select (cmpf .olt x (broadcastInDim S4x1024x1024 ![0, 1, 2] bcast_S4x1024x1_S4x1024x1024_0_1_2 (broadcastInDim S4x1024x1 ![0, 1] bcast_S4x1024_S4x1024x1_0_1 (shapeCast _ (extractStridedSlice S4x1024x1 ![0, 0, 31] ((Host.topK S4x1024x32 2 (FloatOps.cmpfTotal .gt) x sliceFits_S4x1024x1024_S4x1024x32).1) slices_S4x1024x32_S4x1024x1_0_0_31) shapeCasts_S4x1024x1_S4x1024)))) (broadcastInDim S4x1024x1024 ![] bcast_S_S4x1024x1024 (constant S_ .f32 0x00000000#32)) x) w

theorem kept_apply (x : FVec Ideal S4x1024x1024 .f32) (w : FVec Ideal S4x1024x256 .f32) (b : Fin 4) (i : Fin 1024) (f : Fin 256) :
    kept x w (ix3 b i f)
      = ∑ j, (if x (ix3 b i j) < kth (fun j => x (ix3 b i j)) then 0 else x (ix3 b i j)) * w (ix3 b j f) := by
  unfold kept
  pointwise
  rw [top_apply]

/-- The exponential linear unit as the reference spells it. -/
def elu (y : FVec Ideal S4x1024x256 .f32) : FVec Ideal S4x1024x256 .f32 :=
  select (cmpf .ogt y (broadcastInDim S4x1024x256 ![] bcast_S_S4x1024x256 (constant S_ .f32 0x00000000#32))) y (mulf (broadcastInDim S4x1024x256 ![] bcast_S_S4x1024x256 (constant S_ .f32 0x3F800000#32)) (Host.expm1 (select (cmpf .ogt y (broadcastInDim S4x1024x256 ![] bcast_S_S4x1024x256 (constant S_ .f32 0x00000000#32))) (broadcastInDim S4x1024x256 ![] bcast_S_S4x1024x256 (id (constant S_ .f32 0x00000000#32))) y)))

theorem elu_apply (y : FVec Ideal S4x1024x256 .f32) (b : Fin 4) (i : Fin 1024) (f : Fin 256) :
    elu y (ix3 b i f) = activate (y (ix3 b i f)) := by
  unfold elu
  rw [id]
  pointwise
  exact activate_eq _

/-- The reference's term for its result, built of the operations above. -/
theorem term_eq (V : Valuation τ sig (Elt Ideal)) :
    (res_main_v34 V : FVec Ideal S4x1024x256 .f32)
      = kept (hostWeights (V (Proc.devRef .tc main_arg0)) (V (Proc.devRef .tc main_arg1)) (V (Proc.devRef .tc main_arg2)) (V (Proc.devRef .tc main_arg3)))
          (hostFeatures (V (Proc.devRef .tc main_arg0)) (V (Proc.devRef .tc main_arg2))) := rfl

/-- THE REFERENCE'S RESULT, index by index. -/
theorem value (V : Valuation τ sig (Elt Ideal)) :
    elu (res_main_v34 V) = fun i => result (V (Proc.devRef .tc main_arg0)) (V (Proc.devRef .tc main_arg1))
      (V (Proc.devRef .tc main_arg2)) (V (Proc.devRef .tc main_arg3)) (i 0) (i 1) (i 2) := by
  rw [term_eq]
  funext i
  obtain ⟨b, n, f, rfl⟩ : ∃ b n f, i = ix3 b n f := ⟨i 0, i 1, i 2, by funext d; fin_cases d <;> rfl⟩
  rw [elu_apply, kept_apply]
  simp only [weights_apply, features_apply]
  rfl

end Cert.ReferenceIdeal.Result
-- ==== Proof.Separation.lean ====
/-
  What the precondition says: every row's thirty-second largest weight is nonnegative, and every weight below it is
  below it by at least one step of the grid it lies on.
-/
module

public import proofs.«01_k».proof.Proof.Reference
public import proofs.«01_k».proof.Proof.Threshold
public import proofs.«01_k».proof.Proof.Gen.Pre_separated

@[expose] public section

set_option maxRecDepth 16384

noncomputable section

namespace Cert.Pre_separated

open Idealize.ShloMosaic Cert.Attention Cert.Pre_separated.Gen Cert.ReferenceIdeal.Result

/-- The precondition's threshold: place 31 of the top-32 of every row, as a column. -/
def hostKth (x : FVec Ideal S4x1024x1024 .f32) : FVec Ideal S4x1024x1 .f32 :=
  broadcastInDim S4x1024x1 ![0, 1] bcast_S4x1024_S4x1024x1_0_1 (shapeCast S4x1024 (extractStridedSlice S4x1024x1 ![0, 0, 31]
    ((Host.topK S4x1024x32 2 (FloatOps.cmpfTotal .gt) x sliceFits_S4x1024x1024_S4x1024x32).1) slices_S4x1024x32_S4x1024x1_0_0_31) shapeCasts_S4x1024x1_S4x1024)

theorem hostKth_apply (x : FVec Ideal S4x1024x1024 .f32) (b : Fin 4) (i : Fin 1024) :
    hostKth x (ix3 b i 0) = kth (fun j => x (ix3 b i j)) := by
  unfold hostKth
  pointwise
  rw [top_apply]

/-- The comparisons of the precondition, of given weights and thresholds. -/
def check (x : FVec Ideal S4x1024x1024 .f32) (t : FVec Ideal S4x1024x1 .f32) : IVec S4x1024x1024 1 :=
  fn_part2 x t (mulf (maximumf t (broadcastInDim S4x1024x1 ![] bcast_S_S4x1024x1 (constant S_ .f32 0x00800000#32)))
      (broadcastInDim S4x1024x1 ![] bcast_S_S4x1024x1 (constant S_ .f32 0x34000000#32)))
    (cmpf .oge t (broadcastInDim S4x1024x1 ![] bcast_S_S4x1024x1 (constant S_ .f32 0x00000000#32)))

theorem check_apply (x : FVec Ideal S4x1024x1024 .f32) (t : FVec Ideal S4x1024x1 .f32) (b : Fin 4) (i j : Fin 1024)
    (h : check x t (ix3 b i j) = 1#1) :
    0 ≤ t (ix3 b i 0) ∧ (t (ix3 b i 0) ≤ x (ix3 b i j) ∨ x (ix3 b i j) + gap (t (ix3 b i 0)) ≤ t (ix3 b i 0)) := by
  unfold check fn_part2 at h
  dsimp only at h
  revert h
  pointwise
  unfold gap
  by_cases h0 : 0 ≤ t (ix3 b i 0) <;> by_cases h1 : t (ix3 b i 0) ≤ x (ix3 b i j) <;>
    by_cases h2 : x (ix3 b i j) + max (t (ix3 b i 0)) (Ideal.ofBits .f32 8388608#32) * Ideal.ofBits .f32 872415232#32 ≤ t (ix3 b i 0) <;>
    simp [h0, h1, h2, IntOp.andi, IntOp.ori]

/-- The precondition is those comparisons of the attention weights. -/
theorem fn_eq (h : FVec Ideal S4x1024x256 .f32) (adj : IVec S4x1024x1024 32) (W : FVec Ideal S256x256 .f32) (a : FVec Ideal S512x1 .f32) :
    fn (F := Ideal) h adj W a = check (hostWeights h adj W a) (hostKth (hostWeights h adj W a)) := rfl

/-- Where the precondition holds, every row of weights is separated at its thirty-second largest. -/
theorem separated (h : FVec Ideal S4x1024x256 .f32) (adj : IVec S4x1024x1024 32) (W : FVec Ideal S256x256 .f32) (a : FVec Ideal S512x1 .f32)
    (hp : fn (F := Ideal) h adj W a = fun _ => 1#1) (b : Fin 4) (i : Fin 1024) :
    Separated (row h adj W a b i) (kth (row h adj W a b i)) := by
  have key : ∀ j, 0 ≤ kth (row h adj W a b i) ∧ (kth (row h adj W a b i) ≤ row h adj W a b i j
      ∨ row h adj W a b i j + gap (kth (row h adj W a b i)) ≤ kth (row h adj W a b i)) := by
    intro j
    have := check_apply _ _ b i j (congrFun ((fn_eq h adj W a).symm.trans hp) (ix3 b i j))
    simpa only [hostKth_apply, weights_apply] using this
  exact ⟨(key 0).1, fun j => (key j).2⟩

end Cert.Pre_separated
-- ==== Proof.lean ====
/-
  The proof of `Cert.Claim`. Every program terminates without a fault, leaves its arguments unchanged and its counters
  at zero; and where the precondition holds, the kernel's result is the reference's: both are `Cert.Attention.result`
  of the arguments (Proof/Arrays.lean for the kernel, Proof/Reference.lean for the reference).
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Gen.Pre_separated
public import proofs.«01_k».proof.Proof.Result
public import proofs.«01_k».proof.Proof.Arrays
public import proofs.«01_k».proof.Proof.Separation
public import Idealize.ShloMosaic.Adequacy
public import Idealize.ShloMosaic.Init

@[expose] public section

noncomputable section

namespace Cert.Proof

open Idealize.ShloMosaic Idealize.SL.Sem Cert.Kernel

/-- The reference's host program ends with its arguments unchanged, and it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two programs' results agree: the shared value is the layer's result of the kernel's arguments. The kernel's
    second launch leaves it where every row of weights is separated, which is what the precondition says; the
    reference's term is it for any arguments. -/
theorem algebraic : Cert.algebraic_KernelIdeal_ReferenceIdeal_pre_separated := by
  intro m ρ m' ρ' hpre hagree
  refine ⟨fun c => Cert.KernelIdeal.Result.answer m c, ?_, ?_⟩
  · refine (θ_run Cert.KernelIdeal.defs _ _).mono (fun _ h c => ⟨(h c).1.trans ?_, (h c).2⟩) (Cert.KernelIdeal.Result.run m ρ)
    exact Cert.KernelIdeal.Result.second_array m ρ c (Cert.Pre_separated.separated _ _ _ _ (hpre c))
  · refine (θ_run Cert.ReferenceIdeal.defs _ _).mono (fun _ h c => ⟨(h c).1.trans ?_, (h c).2⟩)
      (Cert.ReferenceIdeal.Value.run (F := Ideal) m' ρ')
    refine (Cert.ReferenceIdeal.Result.value (StableHlo.launchContents m' c)).trans ?_
    obtain ⟨h0, h1, h2, h3⟩ := hagree c
    funext i
    show Cert.Attention.result (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) (i 0) (i 1) (i 2) = _
    rw [h0, h1, h2, h3]
    rfl

theorem claim : Cert.Claim := ⟨Cert.Kernel.Gen.facts, Cert.KernelIdeal.Gen.facts, Cert.ReferenceIdeal.Gen.facts,
  Cert.Pre_separated.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, algebraic⟩

end Cert.Proof

end
